-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "big" .f32 0x7149F2CA#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x32 : Shape := ⟨2, ![2, 32]⟩
abbrev S129x2 : Shape := ⟨2, ![129, 2]⟩
abbrev S129x30 : Shape := ⟨2, ![129, 30]⟩
abbrev S129x133 : Shape := ⟨2, ![129, 133]⟩
abbrev S129x992 : Shape := ⟨2, ![129, 992]⟩
abbrev S32x1024 : Shape := ⟨2, ![32, 1024]⟩
abbrev S32x2 : Shape := ⟨2, ![32, 2]⟩
abbrev S_ : Shape := ⟨0, ![]⟩
abbrev S129x1024 : Shape := ⟨2, ![129, 1024]⟩
abbrev S129x128x8 : Shape := ⟨3, ![129, 128, 8]⟩
abbrev S8x129x128 : Shape := ⟨3, ![8, 129, 128]⟩
abbrev S129x1 : Shape := ⟨2, ![129, 1]⟩
abbrev S32x32 : Shape := ⟨2, ![32, 32]⟩
abbrev S1x128 : Shape := ⟨2, ![1, 128]⟩
abbrev S129x128 : Shape := ⟨2, ![129, 128]⟩
abbrev S32x128 : Shape := ⟨2, ![32, 128]⟩
abbrev S128 : Shape := ⟨1, ![128]⟩
abbrev S133x128 : Shape := ⟨2, ![133, 128]⟩
abbrev S129x127 : Shape := ⟨2, ![129, 127]⟩
abbrev S129x126 : Shape := ⟨2, ![129, 126]⟩
abbrev S129x124 : Shape := ⟨2, ![129, 124]⟩
abbrev S129x4 : Shape := ⟨2, ![129, 4]⟩
abbrev S129x120 : Shape := ⟨2, ![129, 120]⟩
abbrev S129x8 : Shape := ⟨2, ![129, 8]⟩
abbrev S129x112 : Shape := ⟨2, ![129, 112]⟩
abbrev S129x16 : Shape := ⟨2, ![129, 16]⟩
abbrev S129x96 : Shape := ⟨2, ![129, 96]⟩
abbrev S129x32 : Shape := ⟨2, ![129, 32]⟩
abbrev S129x64 : Shape := ⟨2, ![129, 64]⟩
abbrev S1x129x128 : Shape := ⟨3, ![1, 129, 128]⟩
abbrev S129 : Shape := ⟨1, ![129]⟩

abbrev nBuf : Space → Nat
  | .hbm => 14
  | .vmem => 9
  | .smem => 0
  | _ => 0

abbrev bufTy : (tb : Table) → Fin (tcTables nBuf tb) → BufTy
  | .hbm, ⟨0, _⟩ => ⟨S2x32, .f32⟩
  | .hbm, ⟨1, _⟩ => ⟨S129x2, .f32⟩
  | .hbm, ⟨2, _⟩ => ⟨S129x30, .f32⟩
  | .hbm, ⟨3, _⟩ => ⟨S129x133, .f32⟩
  | .hbm, ⟨4, _⟩ => ⟨S129x992, .f32⟩
  | .hbm, ⟨5, _⟩ => ⟨S32x1024, .f32⟩
  | .hbm, ⟨6, _⟩ => ⟨S32x1024, .f32⟩
  | .hbm, ⟨7, _⟩ => ⟨S32x2, .f32⟩
  | .hbm, ⟨8, _⟩ => ⟨S_, .i32⟩
  | .hbm, ⟨9, _⟩ => ⟨S_, .f32⟩
  | .hbm, ⟨10, _⟩ => ⟨S129x1024, .f32⟩
  | .hbm, ⟨11, _⟩ => ⟨S129x128x8, .f32⟩
  | .hbm, ⟨12, _⟩ => ⟨S8x129x128, .f32⟩
  | .hbm, ⟨13, _⟩ => ⟨S129x1, .f32⟩
  | .local _ .vmem, ⟨0, _⟩ => ⟨S32x2, .f32⟩
  | .local _ .vmem, ⟨1, _⟩ => ⟨S2x32, .f32⟩
  | .local _ .vmem, ⟨2, _⟩ => ⟨S129x2, .f32⟩
  | .local _ .vmem, ⟨3, _⟩ => ⟨S129x30, .f32⟩
  | .local _ .vmem, ⟨4, _⟩ => ⟨S129x133, .f32⟩
  | .local _ .vmem, ⟨5, _⟩ => ⟨S32x1024, .f32⟩
  | .local _ .vmem, ⟨6, _⟩ => ⟨S32x1024, .f32⟩
  | .local _ .vmem, ⟨7, _⟩ => ⟨S8x129x128, .f32⟩
  | .local _ .vmem, ⟨8, _⟩ => ⟨S129x1, .f32⟩
  | _, _ => ⟨S2x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v10 : BitVec 32 := Scalar.addi c0_i32 c8_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_360 : BitVec 32 := 128#32
  let v4644 : BitVec 32 := Scalar.muli arg9 c128_i32_360
  v4644
def k0_off1 (k0_t1 : Fin k0_t1_loop.trips) : Fin 2 → Nat :=
  let c0_361 : Index := 0#32
  let c0_i32 : BitVec 32 := 0#32
  let c1_i32 : BitVec 32 := 1#32
  let arg9 : BitVec 32 := Scf.iv c0_i32 c1_i32 k0_t1
  let c128_i32_360 : BitVec 32 := 128#32
  let v4644 : BitVec 32 := Scalar.muli arg9 c128_i32_360
  let v4645 : BitVec 32 := v4644
  let v4646 : Index := Scalar.indexCast v4645
  ![0, v4646.toNat]
abbrev stage0_0 : Fin 1 → Memref sig .tc .vmem S32x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S129x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S129x30 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S129x133 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x129x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S129x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== KernelIdeal.lean ====
variable {F : FTy → Type} [FloatOps F] [Named F]
def κ : String → Option EReal := fun
  | "big" => some ⊤
  | _ => none
-- ==== ReferenceIdeal.lean ====
abbrev S2x32 : Shape := ⟨2, ![2, 32]⟩
abbrev S129x2 : Shape := ⟨2, ![129, 2]⟩
abbrev S129x30 : Shape := ⟨2, ![129, 30]⟩
abbrev S129x133 : Shape := ⟨2, ![129, 133]⟩
abbrev S129x992 : Shape := ⟨2, ![129, 992]⟩
abbrev S992x2 : Shape := ⟨2, ![992, 2]⟩
abbrev S992x30 : Shape := ⟨2, ![992, 30]⟩
abbrev S_ : Shape := ⟨0, ![]⟩
abbrev S992x2x1 : Shape := ⟨3, ![992, 2, 1]⟩
abbrev S1 : Shape := ⟨1, ![1]⟩
abbrev S1x1x1 : Shape := ⟨3, ![1, 1, 1]⟩
abbrev S992x2x2 : Shape := ⟨3, ![992, 2, 2]⟩
abbrev S992x30x1 : Shape := ⟨3, ![992, 30, 1]⟩
abbrev S992x2x30 : Shape := ⟨3, ![992, 2, 30]⟩
abbrev S992x2x32 : Shape := ⟨3, ![992, 2, 32]⟩
abbrev S992x4 : Shape := ⟨2, ![992, 4]⟩
abbrev S992x30x2 : Shape := ⟨3, ![992, 30, 2]⟩
abbrev S2x129 : Shape := ⟨2, ![2, 129]⟩
abbrev S992x30x129 : Shape := ⟨3, ![992, 30, 129]⟩
abbrev S992x129x30 : Shape := ⟨3, ![992, 129, 30]⟩
abbrev S1x129x30 : Shape := ⟨3, ![1, 129, 30]⟩
abbrev S992x129 : Shape := ⟨2, ![992, 129]⟩
abbrev S992x133 : Shape := ⟨2, ![992, 133]⟩
abbrev S133x992 : Shape := ⟨2, ![133, 992]⟩
abbrev S133x129 : Shape := ⟨2, ![133, 129]⟩
abbrev S129 : Shape := ⟨1, ![129]⟩
abbrev S129x1 : Shape := ⟨2, ![129, 1]⟩

abbrev nBuf : Space → Nat
  | .hbm => 83
  | .vmem => 0
  | .smem => 0
  | _ => 0

abbrev bufTy : (tb : Table) → Fin (tcTables nBuf tb) → BufTy
  | .hbm, ⟨0, _⟩ => ⟨S2x32, .f32⟩
  | .hbm, ⟨1, _⟩ => ⟨S129x2, .f32⟩
  | .hbm, ⟨2, _⟩ => ⟨S129x30, .f32⟩
  | .hbm, ⟨3, _⟩ => ⟨S129x133, .f32⟩
  | .hbm, ⟨4, _⟩ => ⟨S129x992, .f32⟩
  | .hbm, ⟨5, _⟩ => ⟨S992x2, .i32⟩
  | .hbm, ⟨6, _⟩ => ⟨S992x30, .i32⟩
  | .hbm, ⟨7, _⟩ => ⟨S_, .i32⟩
  | .hbm, ⟨8, _⟩ => ⟨S992x2, .i32⟩
  | .hbm, ⟨9, _⟩ => ⟨S992x2, .i1⟩
  | .hbm, ⟨10, _⟩ => ⟨S_, .i32⟩
  | .hbm, ⟨11, _⟩ => ⟨S992x2, .i32⟩
  | .hbm, ⟨12, _⟩ => ⟨S992x2, .i32⟩
  | .hbm, ⟨13, _⟩ => ⟨S992x2, .i32⟩
  | .hbm, ⟨14, _⟩ => ⟨S992x2x1, .i32⟩
  | .hbm, ⟨15, _⟩ => ⟨S1, .i32⟩
  | .hbm, ⟨16, _⟩ => ⟨S_, .i32⟩
  | .hbm, ⟨17, _⟩ => ⟨S992x2x1, .i32⟩
  | .hbm, ⟨18, _⟩ => ⟨S992x2x1, .i1⟩
  | .hbm, ⟨19, _⟩ => ⟨S1x1x1, .i32⟩
  | .hbm, ⟨20, _⟩ => ⟨S992x2x1, .i32⟩
  | .hbm, ⟨21, _⟩ => ⟨S992x2x1, .i1⟩
  | .hbm, ⟨22, _⟩ => ⟨S992x2x1, .i1⟩
  | .hbm, ⟨23, _⟩ => ⟨S_, .i1⟩
  | .hbm, ⟨24, _⟩ => ⟨S992x2, .i1⟩
  | .hbm, ⟨25, _⟩ => ⟨S992x2x2, .f32⟩
  | .hbm, ⟨26, _⟩ => ⟨S992x2x2, .i1⟩
  | .hbm, ⟨27, _⟩ => ⟨S_, .f32⟩
  | .hbm, ⟨28, _⟩ => ⟨S992x2x2, .f32⟩
  | .hbm, ⟨29, _⟩ => ⟨S992x2x2, .f32⟩
  | .hbm, ⟨30, _⟩ => ⟨S992x2x2, .f32⟩
  | .hbm, ⟨31, _⟩ => ⟨S992x2x2, .f32⟩
  | .hbm, ⟨32, _⟩ => ⟨S_, .i32⟩
  | .hbm, ⟨33, _⟩ => ⟨S992x30, .i32⟩
  | .hbm, ⟨34, _⟩ => ⟨S992x30, .i1⟩
  | .hbm, ⟨35, _⟩ => ⟨S_, .i32⟩
  | .hbm, ⟨36, _⟩ => ⟨S992x30, .i32⟩
  | .hbm, ⟨37, _⟩ => ⟨S992x30, .i32⟩
  | .hbm, ⟨38, _⟩ => ⟨S992x30, .i32⟩
  | .hbm, ⟨39, _⟩ => ⟨S992x30x1, .i32⟩
  | .hbm, ⟨40, _⟩ => ⟨S1, .i32⟩
  | .hbm, ⟨41, _⟩ => ⟨S_, .i32⟩
  | .hbm, ⟨42, _⟩ => ⟨S992x30x1, .i32⟩
  | .hbm, ⟨43, _⟩ => ⟨S992x30x1, .i1⟩
  | .hbm, ⟨44, _⟩ => ⟨S1x1x1, .i32⟩
  | .hbm, ⟨45, _⟩ => ⟨S992x30x1, .i32⟩
  | .hbm, ⟨46, _⟩ => ⟨S992x30x1, .i1⟩
  | .hbm, ⟨47, _⟩ => ⟨S992x30x1, .i1⟩
  | .hbm, ⟨48, _⟩ => ⟨S_, .i1⟩
  | .hbm, ⟨49, _⟩ => ⟨S992x30, .i1⟩
  | .hbm, ⟨50, _⟩ => ⟨S992x2x30, .f32⟩
  | .hbm, ⟨51, _⟩ => ⟨S992x2x30, .i1⟩
  | .hbm, ⟨52, _⟩ => ⟨S_, .f32⟩
  | .hbm, ⟨53, _⟩ => ⟨S992x2x30, .f32⟩
  | .hbm, ⟨54, _⟩ => ⟨S992x2x30, .f32⟩
  | .hbm, ⟨55, _⟩ => ⟨S992x2x2, .f32⟩
  | .hbm, ⟨56, _⟩ => ⟨S992x2x30, .f32⟩
  | .hbm, ⟨57, _⟩ => ⟨S992x2x32, .f32⟩
  | .hbm, ⟨58, _⟩ => ⟨S992x2x2, .f32⟩
  | .hbm, ⟨59, _⟩ => ⟨S992x2x30, .f32⟩
  | .hbm, ⟨60, _⟩ => ⟨S992x2x2, .f32⟩
  | .hbm, ⟨61, _⟩ => ⟨S992x4, .f32⟩
  | .hbm, ⟨62, _⟩ => ⟨S992x30x2, .f32⟩
  | .hbm, ⟨63, _⟩ => ⟨S2x129, .f32⟩
  | .hbm, ⟨64, _⟩ => ⟨S992x30x129, .f32⟩
  | .hbm, ⟨65, _⟩ => ⟨S992x30x129, .f32⟩
  | .hbm, ⟨66, _⟩ => ⟨S992x129x30, .f32⟩
  | .hbm, ⟨67, _⟩ => ⟨S1x129x30, .f32⟩
  | .hbm, ⟨68, _⟩ => ⟨S992x129x30, .f32⟩
  | .hbm, ⟨69, _⟩ => ⟨S992x129x30, .f32⟩
  | .hbm, ⟨70, _⟩ => ⟨S_, .f32⟩
  | .hbm, ⟨71, _⟩ => ⟨S992x129, .f32⟩
  | .hbm, ⟨72, _⟩ => ⟨S992x133, .f32⟩
  | .hbm, ⟨73, _⟩ => ⟨S133x992, .f32⟩
  | .hbm, ⟨74, _⟩ => ⟨S992x133, .f32⟩
  | .hbm, ⟨75, _⟩ => ⟨S133x129, .f32⟩
  | .hbm, ⟨76, _⟩ => ⟨S992x129, .f32⟩
  | .hbm, ⟨77, _⟩ => ⟨S992x129, .f32⟩
  | .hbm, ⟨78, _⟩ => ⟨S129x992, .f32⟩
  | .hbm, ⟨79, _⟩ => ⟨S129x992, .f32⟩
  | .hbm, ⟨80, _⟩ => ⟨S_, .f32⟩
  | .hbm, ⟨81, _⟩ => ⟨S129, .f32⟩
  | .hbm, ⟨82, _⟩ => ⟨S129x1, .f32⟩
  | _, _ => ⟨S2x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_cst : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_cst_1 : Ref sig .tc := ⟨.hbm, 80, rfl⟩
abbrev main_v28 : Ref sig .tc := ⟨.hbm, 81, rfl⟩
abbrev main_v29 : Ref sig .tc := ⟨.hbm, 82, rfl⟩

abbrev nD : Nat := 1
abbrev τ : Topo := Topo.v7x

variable {F : FTy → Type} [FloatOps F]
-- ==== Proof.Pairs.lean ====
module

public import Idealize.ShloMosaic.Lib.ValueIdxCore

/-! # The ordered pairs of points

Pair `c` of the 992 is the point `c / 31` and one of the 31 others; the remaining 30 points follow in ascending order. -/

@[expose] public section

namespace Cert.Pairs

/-- The first point of a pair. -/
def first (c : ℕ) : ℕ := c / 31

/-- The second point of a pair. -/
def second (c : ℕ) : ℕ := if c / 31 ≤ c % 31 then c % 31 + 1 else c % 31

/-- Point `j` of those outside the pair. -/
def rest (c j : ℕ) : ℕ :=
  if j < min (first c) (second c) then j else if j + 1 < max (first c) (second c) then j + 1 else j + 2

theorem first_lt {c : ℕ} (hc : c < 992) : first c < 32 := by unfold first; omega

theorem second_lt (c : ℕ) : second c < 32 := by unfold second; split <;> omega

theorem second_ne (c : ℕ) : second c ≠ first c := by unfold second first; split <;> omega

theorem rest_lt {c j : ℕ} (hj : j < 30) : rest c j < 32 := by unfold rest; split <;> [omega; (split <;> omega)]

theorem rest_ne {c j : ℕ} : rest c j ≠ first c ∧ rest c j ≠ second c := by
  have := second_ne c
  unfold rest
  split <;> [omega; (split <;> omega)]

theorem rest_injective {c i j : ℕ} (h : rest c i = rest c j) : i = j := by
  have := second_ne c
  unfold rest at h
  split at h <;> split at h <;> (try split at h) <;> (try split at h) <;> omega

/-- Every point outside the pair is listed. -/
theorem exists_rest {c k : ℕ} (hc : c < 992) (hk : k < 32) (h1 : k ≠ first c) (h2 : k ≠ second c) :
    ∃ j < 30, rest c j = k := by
  have h3 := second_ne c
  have h4 := first_lt hc
  have h5 := second_lt c
  by_cases ha : k < min (first c) (second c)
  · exact ⟨k, by omega, by unfold rest; rw [if_pos ha]⟩
  · by_cases hb : k < max (first c) (second c)
    · exact ⟨k - 1, by omega, by unfold rest; rw [if_neg (by omega), if_pos (by omega)]; omega⟩
    · exact ⟨k - 2, by omega, by unfold rest; rw [if_neg (by omega), if_neg (by omega)]; omega⟩

end Cert.Pairs
-- ==== Proof.TableFirst.lean ====
module

public import proofs.«01_k».proof.Proof.Gen.KernelIdeal.Value
public import proofs.«01_k».proof.Proof.Pairs

/-! # The kernel's table of first points -/

@[expose] public section

set_option maxRecDepth 65536

namespace Cert.Pairs

/-- Four rows of the kernel's first table, from row `4 * q`: one at the pairs whose first point is the row's. -/
abbrev RowsFirst (q : ℕ) : Prop := ∀ k < 4, ∀ c < 1024, Cert.KernelIdeal.lit0t ((q * 4 + k) * 1024 + c)
  = if c < 992 ∧ first c = q * 4 + k then 0x3F800000#32 else 0x00000000#32

theorem rowsFirst0 : RowsFirst 0 := by decide +kernel
theorem rowsFirst1 : RowsFirst 1 := by decide +kernel
theorem rowsFirst2 : RowsFirst 2 := by decide +kernel
theorem rowsFirst3 : RowsFirst 3 := by decide +kernel
theorem rowsFirst4 : RowsFirst 4 := by decide +kernel
theorem rowsFirst5 : RowsFirst 5 := by decide +kernel
theorem rowsFirst6 : RowsFirst 6 := by decide +kernel
theorem rowsFirst7 : RowsFirst 7 := by decide +kernel

/-- Row `k` of the kernel's first table is one at the pairs whose first point is `k`. -/
theorem table_first (k : ℕ) (hk : k < 32) (c : ℕ) (hc : c < 1024) : Cert.KernelIdeal.lit0t (k * 1024 + c)
    = if c < 992 ∧ first c = k then 0x3F800000#32 else 0x00000000#32 := by
  have h : ∀ q < 8, RowsFirst q := by
    intro q hq
    match q, hq with
    | 0, _ => exact rowsFirst0
    | 1, _ => exact rowsFirst1
    | 2, _ => exact rowsFirst2
    | 3, _ => exact rowsFirst3
    | 4, _ => exact rowsFirst4
    | 5, _ => exact rowsFirst5
    | 6, _ => exact rowsFirst6
    | 7, _ => exact rowsFirst7
  have e := h (k / 4) (by omega) (k % 4) (by omega) c hc
  rwa [show k / 4 * 4 + k % 4 = k by omega] at e

end Cert.Pairs
-- ==== Proof.TableSecond.lean ====
module

public import proofs.«01_k».proof.Proof.Gen.KernelIdeal.Value
public import proofs.«01_k».proof.Proof.Pairs

/-! # The kernel's table of second points -/

@[expose] public section

set_option maxRecDepth 65536

namespace Cert.Pairs

/-- Four rows of the kernel's second table, from row `4 * q`: one at the pairs whose second point is the row's. -/
abbrev RowsSecond (q : ℕ) : Prop := ∀ k < 4, ∀ c < 1024, Cert.KernelIdeal.lit1t ((q * 4 + k) * 1024 + c)
  = if c < 992 ∧ second c = q * 4 + k then 0x3F800000#32 else 0x00000000#32

theorem rowsSecond0 : RowsSecond 0 := by decide +kernel
theorem rowsSecond1 : RowsSecond 1 := by decide +kernel
theorem rowsSecond2 : RowsSecond 2 := by decide +kernel
theorem rowsSecond3 : RowsSecond 3 := by decide +kernel
theorem rowsSecond4 : RowsSecond 4 := by decide +kernel
theorem rowsSecond5 : RowsSecond 5 := by decide +kernel
theorem rowsSecond6 : RowsSecond 6 := by decide +kernel
theorem rowsSecond7 : RowsSecond 7 := by decide +kernel

/-- Row `k` of the kernel's second table is one at the pairs whose second point is `k`. -/
theorem table_second (k : ℕ) (hk : k < 32) (c : ℕ) (hc : c < 1024) : Cert.KernelIdeal.lit1t (k * 1024 + c)
    = if c < 992 ∧ second c = k then 0x3F800000#32 else 0x00000000#32 := by
  have h : ∀ q < 8, RowsSecond q := by
    intro q hq
    match q, hq with
    | 0, _ => exact rowsSecond0
    | 1, _ => exact rowsSecond1
    | 2, _ => exact rowsSecond2
    | 3, _ => exact rowsSecond3
    | 4, _ => exact rowsSecond4
    | 5, _ => exact rowsSecond5
    | 6, _ => exact rowsSecond6
    | 7, _ => exact rowsSecond7
  have e := h (k / 4) (by omega) (k % 4) (by omega) c hc
  rwa [show k / 4 * 4 + k % 4 = k by omega] at e

end Cert.Pairs
-- ==== Proof.Host.lean ====
module

public import proofs.«01_k».proof.Proof.Gen.KernelIdeal.Value
public import proofs.«01_k».proof.Proof.TableFirst
public import proofs.«01_k».proof.Proof.TableSecond
public import Idealize.ShloMosaic.Lib.Pipeline.ValueKit
public import Idealize.ShloMosaic.Lib.Claim
public import Idealize.ShloMosaic.Lib.Pointwise

/-! # What the kernel's inputs hold

The operations before the kernel turn the points over, list the pairs in two tables, and rearrange the weights. -/

@[expose] public section

set_option maxRecDepth 65536
set_option maxHeartbeats 1000000

noncomputable section

namespace Cert.KernelIdeal.Hand

open Cert.KernelIdeal Cert.KernelIdeal.Gen Idealize.ShloMosaic Idealize.ShloMosaic.TcCoe

variable (m : (ℓ : Loc nD τ sig) → Buf (Elt Ideal) ℓ) (c : Dev nD)

/-- The weights, rearranged: the zeros past the pairs, then eight columns per row. -/
def rearranged (z : FVec Ideal S129x992 .f32) : FVec Ideal S8x129x128 .f32 :=
  transpose S8x129x128 [2, 0, 1] (shapeCast S129x128x8 (pad S129x1024 ![0, 0] ![0, 32] ![0, 0] z (sitofp .f32 (constantI S_ 32 0#32)) pads_S129x992_S129x1024_000_0320 h_S_) shapeCasts_S129x1024_S129x128x8) transposes_S129x128x8_S8x129x128_2_0_1

theorem V_v0 : V m c main_v0 = transpose S32x2 [1, 0] (m ((c : Thread nD τ).loc main_arg0)) transposes_S2x32_S32x2_1_0 := by
  simp only [V, hostOps0, hostOps0_1, hostOps0_2, List.flatten_cons, List.flatten_nil, List.append_nil, List.cons_append, List.nil_append]
  after_results

theorem V_cst : V m c main_cst = fun i : S32x1024.Idx => (FloatOps.ofBits .f32 (lit0 (S32x1024.rowMajor i)) : Ideal .f32) := by
  simp only [V, hostOps0, hostOps0_1, hostOps0_2, List.flatten_cons, List.flatten_nil, List.append_nil, List.cons_append, List.nil_append]
  after_results
  rfl

theorem V_cst_0 : V m c main_cst_0 = fun i : S32x1024.Idx => (FloatOps.ofBits .f32 (lit1 (S32x1024.rowMajor i)) : Ideal .f32) := by
  simp only [V, hostOps0, hostOps0_1, hostOps0_2, List.flatten_cons, List.flatten_nil, List.append_nil, List.cons_append, List.nil_append]
  after_results
  rfl

theorem V_v3 : V m c main_v3 = rearranged (m ((c : Thread nD τ).loc main_arg4)) := by
  simp only [V, hostOps0, hostOps0_1, hostOps0_2, List.flatten_cons, List.flatten_nil, List.append_nil, List.cons_append, List.nil_append]
  after_results
  rfl

theorem rearranged_apply (z : FVec Ideal S129x992 .f32) (q : Fin 8) (l : Fin 129) (r : Fin 128) :
    rearranged z (ix3 q l r) = if h : r.val * 8 + q.val < 992 then z (ix2 l ⟨r.val * 8 + q.val, h⟩) else 0 := by
  pointwise [rearranged]
  rw [show (FloatOps.sitofp .f32 (0#32) : Ideal .f32) = (0 : EReal) from ?_]
  show (((0#32 : BitVec 32).toInt : ℝ) : EReal) = 0
  simp

theorem value_of_table {b : BitVec 32} {p : Prop} [Decidable p] (h : b = if p then 0x3F800000#32 else 0x00000000#32) :
    (FloatOps.ofBits .f32 b : Ideal .f32) = if p then (1 : EReal) else 0 := by
  rw [h]
  split
  · exact Ideal.ofBits_one_f32
  · exact Ideal.ofBits_zero_f32

theorem place_val (k : Fin 32) (n : Fin 1024) : (S32x1024.rowMajor (ix2 k n)).val = k.val * 1024 + n.val :=
  Shape.rowMajor_val_two _

theorem lit0_val (i : Fin S32x1024.numel) : lit0 i = lit0t i.val := rfl

theorem lit1_val (i : Fin S32x1024.numel) : lit1 i = lit1t i.val := rfl

theorem cst_apply (k : Fin 32) (n : Fin 1024) : V m c main_cst (ix2 k n) = if n.val < 992 ∧ Cert.Pairs.first n.val = k.val then (1 : EReal) else 0 := by
  rw [V_cst]
  refine value_of_table ?_
  rw [lit0_val, place_val]
  exact Cert.Pairs.table_first k.val k.isLt n.val n.isLt

theorem cst_0_apply (k : Fin 32) (n : Fin 1024) : V m c main_cst_0 (ix2 k n) = if n.val < 992 ∧ Cert.Pairs.second n.val = k.val then (1 : EReal) else 0 := by
  rw [V_cst_0]
  refine value_of_table ?_
  rw [lit1_val, place_val]
  exact Cert.Pairs.table_second k.val k.isLt n.val n.isLt

theorem v0_apply (a : Fin 32) (i : Fin 2) : V m c main_v0 (ix2 a i) = m ((c : Thread nD τ).loc main_arg0) (ix2 i a) := by
  rw [V_v0]
  pointwise

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0, 0] ∧ win0_8.index t = ![0, 0] :=
  (by decide +kernel : ∀ t : Fin grid0.N, _)

/-- Each window's block is its whole array. -/
theorem iblk0 (t : Fin cfg0.N) : iblk m c 0 t = V m c main_v0 := by
  blk_ext! [iblk, idx t]
theorem iblk1 (t : Fin cfg0.N) : iblk m c 1 t = V m c main_arg0 := by
  blk_ext! [iblk, idx t]
theorem iblk2 (t : Fin cfg0.N) : iblk m c 2 t = V m c main_arg1 := by
  blk_ext! [iblk, idx t]
theorem iblk3 (t : Fin cfg0.N) : iblk m c 3 t = V m c main_arg2 := by
  blk_ext! [iblk, idx t]
theorem iblk4 (t : Fin cfg0.N) : iblk m c 4 t = V m c main_arg3 := by
  blk_ext! [iblk, idx t]
theorem iblk5 (t : Fin cfg0.N) : iblk m c 5 t = V m c main_cst := by
  blk_ext! [iblk, idx t]
theorem iblk6 (t : Fin cfg0.N) : iblk m c 6 t = V m c main_cst_0 := by
  blk_ext! [iblk, idx t]
theorem iblk7 (t : Fin cfg0.N) : iblk m c 7 t = V m c main_v3 := by
  blk_ext! [iblk, idx t]

end Cert.KernelIdeal.Hand
-- ==== Proof.Mirror.lean ====
module

public import proofs.«01_k».proof.Proof.Gen.KernelIdeal.Value

/-! # The kernel's body in its own words

The same operations the body performs, written once each over a list of planes: the sorting network
of the 32 distance planes of one chunk, the bitonic network over the eight planes of scores, and the
weighted sum at the end. -/

@[expose] public section

set_option maxRecDepth 65536

noncomputable section

namespace Cert.KernelIdeal.Mirror

open Cert.KernelIdeal Cert.KernelIdeal.Gen Idealize.ShloMosaic Idealize.ShloMosaic.TcCoe

variable {F : FTy → Type} [FloatOps F] [Named F]

/-- A choice by a condition already evaluated. -/
abbrev choose {α : Type} (b : Bool) (t e : α) : α := @Bool.rec (fun _ => α) e t b

/-- Entry `i` of a list, `d` past its end. -/
abbrev pick {α : Type} (d : α) (L : List α) (i : ℕ) : α :=
  @List.rec α (fun _ => ℕ → α) (fun _ => d)
    (fun x _ ih n => @Nat.rec (fun _ => α) x (fun n' _ => ih n') n) L i

/-- A plane of scores: one row per landmark, one column per lane. -/
local notation "Plane" => FVec F S129x128 FTy.f32

/-- What a missing plane would read as. -/
abbrev blank : Plane := fun _ => FloatOps.ofBits .f32 0x00000000#32

/-- One row of lanes repeated for every landmark. -/
abbrev rows (x : IVec S1x128 1) : IVec S129x128 1 :=
  broadcastTo S129x128 (shapeCast S1x128 x shapeCasts_S1x128_S1x128) broadcasts_S1x128_S129x128

/-- The lane numbers. -/
abbrev lanes : IVec S1x128 32 := iota .tc S1x128 32 [1] iota_S1x128_d1_w32

/-- The lanes whose number has no bit in common with `w`. -/
abbrev clear (w : ℕ) : IVec S1x128 1 :=
  cmpi .eq (andi lanes (broadcast S1x128 (BitVec.ofNat 32 w))) (broadcast S1x128 0#32)

/-! ## One chunk -/

theorem slices_row (k : ℕ) : S32x128.Slices ![k % 32, 0] S1x128 := by
  refine ⟨rfl, fun a => ?_⟩
  have := Nat.mod_lt k (by decide : 0 < 32)
  fin_cases a
  · show k % 32 + 1 ≤ 32; omega
  · show 0 + 128 ≤ 128; omega

theorem slices_col (k : ℕ) : S129x30.Slices ![0, k % 30] S129x1 := by
  refine ⟨rfl, fun a => ?_⟩
  have := Nat.mod_lt k (by decide : 0 < 30)
  fin_cases a
  · show 0 + 129 ≤ 129; omega
  · show k % 30 + 1 ≤ 30; omega

/-- The distances to point `k`, the two chosen points themselves set to the large constant. -/
abbrev plane (ws0 ws1 : FVec F S129x1 .f32) (xt yt p0 p1 : FVec F S32x128 .f32) (k : ℕ) : Plane :=
  select
    (rows (cmpf .ogt (addf (extractStridedSlice S1x128 ![k % 32, 0] p0 (slices_row k))
      (extractStridedSlice S1x128 ![k % 32, 0] p1 (slices_row k)))
      (broadcast S1x128 (Scalar.ofBits .f32 0x3F000000#32))))
    (broadcast S129x128 (Named.named κ "big" 0x7149F2CA#32))
    (addf
      (mulf (broadcastTo S129x128 ws0 broadcasts_S129x1_S129x128)
        (broadcastTo S129x128 (extractStridedSlice S1x128 ![k % 32, 0] xt (slices_row k)) broadcasts_S1x128_S129x128))
      (mulf (broadcastTo S129x128 ws1 broadcasts_S129x1_S129x128)
        (broadcastTo S129x128 (extractStridedSlice S1x128 ![k % 32, 0] yt (slices_row k)) broadcasts_S1x128_S129x128)))

/-- The layers of the odd-even merge sort of 32 entries: at each position the position it is compared with, itself
where it is left alone. -/
def layers : List (List ℕ) :=
  [[1, 0, 3, 2, 5, 4, 7, 6, 9, 8, 11, 10, 13, 12, 15, 14, 17, 16, 19, 18, 21, 20, 23, 22, 25, 24, 27, 26, 29, 28, 31, 30],
   [2, 3, 0, 1, 6, 7, 4, 5, 10, 11, 8, 9, 14, 15, 12, 13, 18, 19, 16, 17, 22, 23, 20, 21, 26, 27, 24, 25, 30, 31, 28, 29],
   [0, 2, 1, 3, 4, 6, 5, 7, 8, 10, 9, 11, 12, 14, 13, 15, 16, 18, 17, 19, 20, 22, 21, 23, 24, 26, 25, 27, 28, 30, 29, 31],
   [4, 5, 6, 7, 0, 1, 2, 3, 12, 13, 14, 15, 8, 9, 10, 11, 20, 21, 22, 23, 16, 17, 18, 19, 28, 29, 30, 31, 24, 25, 26, 27],
   [0, 1, 4, 5, 2, 3, 6, 7, 8, 9, 12, 13, 10, 11, 14, 15, 16, 17, 20, 21, 18, 19, 22, 23, 24, 25, 28, 29, 26, 27, 30, 31],
   [0, 2, 1, 4, 3, 6, 5, 7, 8, 10, 9, 12, 11, 14, 13, 15, 16, 18, 17, 20, 19, 22, 21, 23, 24, 26, 25, 28, 27, 30, 29, 31],
   [8, 9, 10, 11, 12, 13, 14, 15, 0, 1, 2, 3, 4, 5, 6, 7, 24, 25, 26, 27, 28, 29, 30, 31, 16, 17, 18, 19, 20, 21, 22, 23],
   [0, 1, 2, 3, 8, 9, 10, 11, 4, 5, 6, 7, 12, 13, 14, 15, 16, 17, 18, 19, 24, 25, 26, 27, 20, 21, 22, 23, 28, 29, 30, 31],
   [0, 1, 4, 5, 2, 3, 8, 9, 6, 7, 12, 13, 10, 11, 14, 15, 16, 17, 20, 21, 18, 19, 24, 25, 22, 23, 28, 29, 26, 27, 30, 31],
   [0, 2, 1, 4, 3, 6, 5, 8, 7, 10, 9, 12, 11, 14, 13, 15, 16, 18, 17, 20, 19, 22, 21, 24, 23, 26, 25, 28, 27, 30, 29, 31],
   [16, 17, 18, 19, 20, 21, 22, 23, 24, 25, 26, 27, 28, 29, 30, 31, 0, 1, 2, 3, 4, 5, 6, 7, 8, 9, 10, 11, 12, 13, 14, 15],
   [0, 1, 2, 3, 4, 5, 6, 7, 16, 17, 18, 19, 20, 21, 22, 23, 8, 9, 10, 11, 12, 13, 14, 15, 24, 25, 26, 27, 28, 29, 30, 31],
   [0, 1, 2, 3, 8, 9, 10, 11, 4, 5, 6, 7, 16, 17, 18, 19, 12, 13, 14, 15, 24, 25, 26, 27, 20, 21, 22, 23, 28, 29, 30, 31],
   [0, 1, 4, 5, 2, 3, 8, 9, 6, 7, 12, 13, 10, 11, 16, 17, 14, 15, 20, 21, 18, 19, 24, 25, 22, 23, 28, 29, 26, 27, 30, 31],
   [0, 2, 1, 4, 3, 6, 5, 8, 7, 10, 9, 12, 11, 14, 13, 16, 15, 18, 17, 20, 19, 22, 21, 24, 23, 26, 25, 28, 27, 30, 29, 31]]

/-- Plane `i` after a layer: the smaller of a pair at its first position, the larger at its second. -/
abbrev compared (L : List Plane) (t : List ℕ) (i : ℕ) : Plane :=
  choose (Nat.blt i (pick 0 t i)) (minimumf (pick blank L i) (pick blank L (pick 0 t i)))
    (choose (Nat.blt (pick 0 t i) i) (maximumf (pick blank L (pick 0 t i)) (pick blank L i)) (pick blank L i))

/-- One layer over all the planes of a chunk. -/
def layer (L : List Plane) (t : List ℕ) : List Plane := (List.range 32).map (compared L t)

/-- The planes of a chunk after the sorting network. -/
def sortedPlanes (L : List Plane) : List Plane := layers.foldl layer L

/-- The planes of a chunk before it. -/
def planes (ws0 ws1 : FVec F S129x1 .f32) (xt yt p0 p1 : FVec F S32x128 .f32) : List Plane :=
  (List.range 32).map (plane ws0 ws1 xt yt p0 p1)

/-- Column `k` of the inner weights, repeated along the lanes. -/
abbrev weight (wd : FVec F S129x30 .f32) (k : ℕ) : Plane :=
  broadcastTo S129x128 (extractStridedSlice S129x1 ![0, k % 30] wd (slices_col k)) broadcasts_S129x1_S129x128

/-- The weighted sum of the first `n + 1` sorted planes. -/
abbrev accum (wd : FVec F S129x30 .f32) (L : List Plane) (n : ℕ) : Plane :=
  @Nat.rec (fun _ => Plane) (mulf (pick blank L 0) (weight wd 0))
    (fun n acc => addf acc (mulf (pick blank L (n + 1)) (weight wd (n + 1)))) n

/-- The scores of one chunk of point pairs. -/
abbrev chunk (G : FVec F S32x32 .f32) (p0 p1 : FVec F S32x128 .f32) (ws0 ws1 : FVec F S129x1 .f32)
    (wd : FVec F S129x30 .f32) (wf : FVec F S129x133 .f32) : Plane :=
  matmul dot_S129x133_S133x128_S129x128_1_0_0_1_n_n (some .fp32) wf
    (concatenate S133x128 0 [⟨S1x128, k0_pay4 G p0⟩, ⟨S1x128, k0_pay5 G p0 p1⟩, ⟨S1x128, k0_pay5 G p0 p1⟩,
      ⟨S1x128, k0_pay6 G p1⟩,
      ⟨S129x128, accum wd (sortedPlanes (planes ws0 ws1 (k0_pay2 G p0) (k0_pay3 G p1) p0 p1)) 29⟩]
      concatenates_S1x128_S1x128_S1x128_S1x128_S129x128_S133x128_d0)
    (constant S129x128 .f32 0x00000000#32)

/-! ## The bitonic network -/

/-- The plane at the lower position of an exchange between two planes. -/
abbrev lower (l q : ℕ) (a b : Plane) : Plane :=
  choose (Nat.blt l 2)
    (choose (Nat.beq (Nat.land q (Nat.pow 2 (l + 1))) 0) (minimumf a b) (maximumf a b))
    (select (rows (clear (Nat.pow 2 (l - 2)))) (minimumf a b) (maximumf a b))

/-- The plane at the upper position. -/
abbrev upper (l q : ℕ) (a b : Plane) : Plane :=
  choose (Nat.blt l 2)
    (choose (Nat.beq (Nat.land q (Nat.pow 2 (l + 1))) 0) (maximumf a b) (minimumf a b))
    (select (rows (clear (Nat.pow 2 (l - 2)))) (maximumf a b) (minimumf a b))

theorem slices_lanes (a b : ℕ) (h : a + b ≤ 128) : S129x128.Slices ![0, a] ⟨2, ![129, b]⟩ := by
  refine ⟨rfl, fun x => ?_⟩
  fin_cases x
  · show 0 + 129 ≤ 129; omega
  · exact h

theorem concat_lanes (a b : ℕ) (h : a + b = 128) :
    Shape.Concatenates [(⟨2, ![129, a]⟩ : Shape), ⟨2, ![129, b]⟩] S129x128 1 := by
  refine ⟨le_refl 2, fun s hs => ?_, ?_⟩
  · simp only [List.mem_cons, List.not_mem_nil, or_false] at hs
    rcases hs with rfl | rfl
    · refine ⟨rfl, fun x hx => ?_⟩
      fin_cases x
      · rfl
      · exact absurd rfl hx
    · refine ⟨rfl, fun x hx => ?_⟩
      fin_cases x
      · rfl
      · exact absurd rfl hx
  · show a + (b + 0) = 128; omega

/-- A plane with its first `a` lanes moved to the end, where `a + b = 128`. -/
abbrev rotate (x : Plane) (a b : ℕ) (h : a + b = 128) : Plane :=
  concatenate S129x128 1
    [⟨⟨2, ![129, b]⟩, extractStridedSlice ⟨2, ![129, b]⟩ ![0, a] x (slices_lanes a b h.le)⟩,
      ⟨⟨2, ![129, a]⟩, extractStridedSlice ⟨2, ![129, a]⟩ ![0, 0] x (slices_lanes 0 a (by omega))⟩]
    (concat_lanes b a (by omega))

/-- Each lane's partner: the lane whose number differs by the one bit `a`. -/
abbrev across (x : Plane) (a b : ℕ) (h : a + b = 128) : Plane :=
  select (rows (clear a)) (rotate x a b h) (rotate x b a (by omega))

/-- The exchange inside one plane between lanes that differ by the one bit `a`. -/
abbrev within (l : ℕ) (x : Plane) (a b : ℕ) (h : a + b = 128) : Plane :=
  select (rows (xori (xori (clear a) (clear (Nat.pow 2 (l - 2)))) (constantI S1x128 1 1#1)))
    (minimumf x (across x a b h)) (maximumf x (across x a b h))

theorem split128 (t : ℕ) : Nat.pow 2 (t % 7) + (128 - Nat.pow 2 (t % 7)) = 128 := by
  have h : ∀ u < 7, Nat.pow 2 u + (128 - Nat.pow 2 u) = 128 := by decide
  exact h _ (Nat.mod_lt t (by decide))

/-- Plane `q` after the exchange at distance `2 ^ s` of level `l`. -/
abbrev exchange (L : List Plane) (l s q : ℕ) : Plane :=
  choose (Nat.blt s 3)
    (choose (Nat.blt q (Nat.xor q (Nat.pow 2 s)))
      (lower l q (pick blank L q) (pick blank L (Nat.xor q (Nat.pow 2 s))))
      (upper l (Nat.xor q (Nat.pow 2 s)) (pick blank L (Nat.xor q (Nat.pow 2 s))) (pick blank L q)))
    (within l (pick blank L q) (Nat.pow 2 ((s - 3) % 7)) (128 - Nat.pow 2 ((s - 3) % 7)) (split128 (s - 3)))

/-- One exchange over all eight planes. -/
def stage (L : List Plane) (p : ℕ × ℕ) : List Plane := (List.range 8).map (exchange L p.1 p.2)

/-- The exchanges of the bitonic sort of 1024 entries: level and exponent of the distance. -/
def steps : List (ℕ × ℕ) :=
  [(0, 0), (1, 1), (1, 0), (2, 2), (2, 1), (2, 0), (3, 3), (3, 2), (3, 1), (3, 0), (4, 4),
   (4, 3), (4, 2), (4, 1), (4, 0), (5, 5), (5, 4), (5, 3), (5, 2), (5, 1), (5, 0), (6, 6),
   (6, 5), (6, 4), (6, 3), (6, 2), (6, 1), (6, 0), (7, 7), (7, 6), (7, 5), (7, 4), (7, 3),
   (7, 2), (7, 1), (7, 0), (8, 8), (8, 7), (8, 6), (8, 5), (8, 4), (8, 3), (8, 2), (8, 1),
   (8, 0), (9, 9), (9, 8), (9, 7), (9, 6), (9, 5), (9, 4), (9, 3), (9, 2), (9, 1), (9, 0)]

/-- The scores after the bitonic network. -/
def sortedScores (L : List Plane) : List Plane := steps.foldl stage L

/-- The last plane with the lanes past the last point pair set to the large constant. -/
abbrev masked (x : Plane) : Plane :=
  select (rows (cmpi .sge lanes (broadcast S1x128 96#32)))
    (broadcast S129x128 (Named.named κ "big" 0x7149F2CA#32)) x

/-- The eight planes before the network. -/
def scores (t : Plane × Plane × Plane × Plane × Plane × Plane × Plane × Plane) : List Plane :=
  [t.1, t.2.1, t.2.2.1, t.2.2.2.1, t.2.2.2.2.1, t.2.2.2.2.2.1, t.2.2.2.2.2.2.1, masked t.2.2.2.2.2.2.2]

/-- One plane weighted. -/
abbrev weighted (L : List Plane) (q : ℕ) (w : FVec F S1x129x128 .f32) : Plane :=
  mulf (pick blank L q) (shapeCast S129x128 w shapeCasts_S1x129x128_S129x128)

/-- The weighted sum of the sorted planes. -/
abbrev total (L : List Plane) (w0 w1 w2 w3 w4 w5 w6 w7 : FVec F S1x129x128 .f32) : Plane :=
  addf (addf (addf (addf (addf (addf (addf (weighted L 0 w0) (weighted L 1 w1)) (weighted L 2 w2))
    (weighted L 3 w3)) (weighted L 4 w4)) (weighted L 5 w5)) (weighted L 6 w6)) (weighted L 7 w7)

end Cert.KernelIdeal.Mirror
-- ==== Proof.Run.lean ====
module

public import proofs.«01_k».proof.Proof.Mirror

/-! # The kernel's run

What the body stores in its output: the weighted sum of the planes the loop leaves, sorted. -/

@[expose] public section

set_option maxRecDepth 65536
set_option maxHeartbeats 4000000

noncomputable section

namespace Cert.KernelIdeal.Mirror

open Cert.KernelIdeal Cert.KernelIdeal.Gen Idealize.ShloMosaic Idealize.ShloMosaic.TcCoe

variable {F : FTy → Type} [FloatOps F] [Named F]

theorem run_eq (c : Dev nD)
    (arg0 : Memref sig .tc .vmem S32x2 .f32) (harg0 : arg0.IsWhole) (arg1 : Memref sig .tc .vmem S2x32 .f32) (harg1 : arg1.IsWhole) (arg2 : Memref sig .tc .vmem S129x2 .f32) (harg2 : arg2.IsWhole) (arg3 : Memref sig .tc .vmem S129x30 .f32) (harg3 : arg3.IsWhole)
    (arg4 : Memref sig .tc .vmem S129x133 .f32) (harg4 : arg4.IsWhole) (arg5 : Memref sig .tc .vmem S32x1024 .f32) (harg5 : arg5.IsWhole) (arg6 : Memref sig .tc .vmem S32x1024 .f32) (harg6 : arg6.IsWhole)
    (arg7 : Memref sig .tc .vmem S8x129x128 .f32) (harg7 : arg7.IsWhole) (arg8 : Memref sig .tc .vmem S129x1 .f32) (harg8 : arg8.IsWhole)
    (x0 : Vec F S32x2 .f32) (x1 : Vec F S2x32 .f32) (x2 : Vec F S129x2 .f32) (x3 : Vec F S129x30 .f32) (x4 : Vec F S129x133 .f32) (x5 : Vec F S32x1024 .f32) (x6 : Vec F S32x1024 .f32) (x7 : Vec F S8x129x128 .f32) :
    (kernelRun0_A (F := F) c arg0 harg0 arg1 harg1 arg2 harg2 arg3 harg3 arg4 harg4 arg5 harg5 arg6 harg6 arg7 harg7 arg8 harg8 x0 x1 x2 x3 x4 x5 x6 x7).1
      = [⟨Rect.unit ![0, 0] S129x1.size inb_S129x1_S129x1_0_0,
          k0_pay1 (total (sortedScores (scores (st_k0_t1 (F := F) Variants.none c none arg0 harg0 arg1 harg1 arg2 harg2 arg3 harg3 arg4 harg4 arg5 harg5 arg6 harg6 arg7 harg7 arg8 harg8
            (View.readAt (Elt F) arg0.view (Rect.unit (s := S32x2) ![0, 0] S32x2.size inb_S32x2_S32x2_0_0).toLoadRect (harg0.unread x0))
            (View.readAt (Elt F) arg1.view (Rect.unit (s := S2x32) ![0, 0] S2x32.size inb_S2x32_S2x32_0_0).toLoadRect (harg1.unread x1))
            (View.readAt (Elt F) arg2.view (Rect.unit (s := S129x2) ![0, 0] S129x1.size inb_S129x2_S129x1_0_0).toLoadRect (harg2.unread x2))
            (View.readAt (Elt F) arg2.view (Rect.unit (s := S129x2) ![0, 1] S129x1.size inb_S129x2_S129x1_0_1).toLoadRect (harg2.unread x2))
            (View.readAt (Elt F) arg3.view (Rect.unit (s := S129x30) ![0, 0] S129x30.size inb_S129x30_S129x30_0_0).toLoadRect (harg3.unread x3))
            (View.readAt (Elt F) arg4.view (Rect.unit (s := S129x133) ![0, 0] S129x133.size inb_S129x133_S129x133_0_0).toLoadRect (harg4.unread x4))
            (harg5.unread x5) (harg6.unread x6)
            (k0_pay452, k0_pay452, k0_pay452, k0_pay452, k0_pay452, k0_pay452, k0_pay452, k0_pay452)
            (Scf.trips k0_t1_loop.lb k0_t1_loop.ub k0_t1_loop.st))))
            (View.readAt (Elt F) arg7.view (Rect.unit (s := S8x129x128) ![0, 0, 0] S1x129x128.size inb_S8x129x128_S1x129x128_0_0_0).toLoadRect (harg7.unread x7))
            (View.readAt (Elt F) arg7.view (Rect.unit (s := S8x129x128) ![1, 0, 0] S1x129x128.size inb_S8x129x128_S1x129x128_1_0_0).toLoadRect (harg7.unread x7))
            (View.readAt (Elt F) arg7.view (Rect.unit (s := S8x129x128) ![2, 0, 0] S1x129x128.size inb_S8x129x128_S1x129x128_2_0_0).toLoadRect (harg7.unread x7))
            (View.readAt (Elt F) arg7.view (Rect.unit (s := S8x129x128) ![3, 0, 0] S1x129x128.size inb_S8x129x128_S1x129x128_3_0_0).toLoadRect (harg7.unread x7))
            (View.readAt (Elt F) arg7.view (Rect.unit (s := S8x129x128) ![4, 0, 0] S1x129x128.size inb_S8x129x128_S1x129x128_4_0_0).toLoadRect (harg7.unread x7))
            (View.readAt (Elt F) arg7.view (Rect.unit (s := S8x129x128) ![5, 0, 0] S1x129x128.size inb_S8x129x128_S1x129x128_5_0_0).toLoadRect (harg7.unread x7))
            (View.readAt (Elt F) arg7.view (Rect.unit (s := S8x129x128) ![6, 0, 0] S1x129x128.size inb_S8x129x128_S1x129x128_6_0_0).toLoadRect (harg7.unread x7))
            (View.readAt (Elt F) arg7.view (Rect.unit (s := S8x129x128) ![7, 0, 0] S1x129x128.size inb_S8x129x128_S1x129x128_7_0_0).toLoadRect (harg7.unread x7)))⟩] := by
  unfold kernelRun0_A
  rfl

end Cert.KernelIdeal.Mirror
-- ==== Proof.Trip.lean ====
module

public import proofs.«01_k».proof.Proof.Mirror

/-! # One trip of the kernel's loop

A trip drops the oldest plane of scores and appends the scores of its chunk. -/

@[expose] public section

set_option maxRecDepth 65536
set_option maxHeartbeats 4000000

noncomputable section

namespace Cert.KernelIdeal.Mirror

open Cert.KernelIdeal Cert.KernelIdeal.Gen Idealize.ShloMosaic Idealize.ShloMosaic.TcCoe

variable {F : FTy → Type} [FloatOps F] [Named F]

theorem trip_eq (𝒱 : Variants) (c : Dev nD) (bd : Option 𝒱.V)
    (arg0 : Memref sig .tc .vmem S32x2 .f32) (harg0 : arg0.IsWhole) (arg1 : Memref sig .tc .vmem S2x32 .f32) (harg1 : arg1.IsWhole) (arg2 : Memref sig .tc .vmem S129x2 .f32) (harg2 : arg2.IsWhole) (arg3 : Memref sig .tc .vmem S129x30 .f32) (harg3 : arg3.IsWhole)
    (arg4 : Memref sig .tc .vmem S129x133 .f32) (harg4 : arg4.IsWhole) (arg5 : Memref sig .tc .vmem S32x1024 .f32) (harg5 : arg5.IsWhole) (arg6 : Memref sig .tc .vmem S32x1024 .f32) (harg6 : arg6.IsWhole)
    (arg7 : Memref sig .tc .vmem S8x129x128 .f32) (harg7 : arg7.IsWhole) (arg8 : Memref sig .tc .vmem S129x1 .f32) (harg8 : arg8.IsWhole)
    (v0 : Vec F S32x2 .f32) (v2 : Vec F S2x32 .f32) (v4 v5 : Vec F S129x1 .f32) (v6 : Vec F S129x30 .f32)
    (v7 : Vec F S129x133 .f32) (X5 : BufTy.Contents (Elt F) arg5.view.ty) (X6 : BufTy.Contents (Elt F) arg6.view.ty)
    (k : Fin k0_t1_loop.trips)
    (acc : FVec F S129x128 .f32 × FVec F S129x128 .f32 × FVec F S129x128 .f32 × FVec F S129x128 .f32 × FVec F S129x128 .f32 × FVec F S129x128 .f32 × FVec F S129x128 .f32 × FVec F S129x128 .f32) :
    tripR_k0_t1 (F := F) 𝒱 c bd arg0 harg0 arg1 harg1 arg2 harg2 arg3 harg3 arg4 harg4 arg5 harg5 arg6 harg6 arg7 harg7 arg8 harg8 v0 v2 v4 v5 v6 v7 X5 X6 k acc
      = (acc.2.1, acc.2.2.1, acc.2.2.2.1, acc.2.2.2.2.1, acc.2.2.2.2.2.1, acc.2.2.2.2.2.2.1, acc.2.2.2.2.2.2.2,
          chunk (k0_pay451 v0 v2) (trip_k0_t1.sl.r arg5 X5 k) (trip_k0_t1.sl.r arg6 X6 k) v4 v5 v6 v7) := by
  unfold tripR_k0_t1 trip_k0_t1
  rfl

end Cert.KernelIdeal.Mirror
-- ==== Proof.Loop.lean ====
module

public import proofs.«01_k».proof.Proof.Trip

/-! # The kernel's loop

The eight planes the loop leaves are the scores of the eight chunks, in order. -/

@[expose] public section

set_option maxRecDepth 65536

noncomputable section

namespace Cert.KernelIdeal.Mirror

open Cert.KernelIdeal Cert.KernelIdeal.Gen Idealize.ShloMosaic Idealize.ShloMosaic.TcCoe

variable {F : FTy → Type} [FloatOps F] [Named F]

/-- The planes the loop has seen: the eight it starts from, then the chunks'. -/
abbrev seen (P : ℕ → FVec F S129x128 .f32) (i : ℕ) : FVec F S129x128 .f32 := if i < 8 then k0_pay452 else P (i - 8)

/-- Eight planes in a row. -/
abbrev eight (W : ℕ → FVec F S129x128 .f32) (n : ℕ) :
    FVec F S129x128 .f32 × FVec F S129x128 .f32 × FVec F S129x128 .f32 × FVec F S129x128 .f32 × FVec F S129x128 .f32
      × FVec F S129x128 .f32 × FVec F S129x128 .f32 × FVec F S129x128 .f32 :=
  (W n, W (n + 1), W (n + 2), W (n + 3), W (n + 4), W (n + 5), W (n + 6), W (n + 7))

theorem trips_eq : k0_t1_loop.trips = 8 := by decide +kernel

theorem loop_eq (𝒱 : Variants) (c : Dev nD) (bd : Option 𝒱.V)
    (arg0 : Memref sig .tc .vmem S32x2 .f32) (harg0 : arg0.IsWhole) (arg1 : Memref sig .tc .vmem S2x32 .f32) (harg1 : arg1.IsWhole) (arg2 : Memref sig .tc .vmem S129x2 .f32) (harg2 : arg2.IsWhole) (arg3 : Memref sig .tc .vmem S129x30 .f32) (harg3 : arg3.IsWhole)
    (arg4 : Memref sig .tc .vmem S129x133 .f32) (harg4 : arg4.IsWhole) (arg5 : Memref sig .tc .vmem S32x1024 .f32) (harg5 : arg5.IsWhole) (arg6 : Memref sig .tc .vmem S32x1024 .f32) (harg6 : arg6.IsWhole)
    (arg7 : Memref sig .tc .vmem S8x129x128 .f32) (harg7 : arg7.IsWhole) (arg8 : Memref sig .tc .vmem S129x1 .f32) (harg8 : arg8.IsWhole)
    (v0 : Vec F S32x2 .f32) (v2 : Vec F S2x32 .f32) (v4 v5 : Vec F S129x1 .f32) (v6 : Vec F S129x30 .f32)
    (v7 : Vec F S129x133 .f32) (X5 : BufTy.Contents (Elt F) arg5.view.ty) (X6 : BufTy.Contents (Elt F) arg6.view.ty)
    (P : ℕ → FVec F S129x128 .f32)
    (hP : ∀ k : Fin k0_t1_loop.trips, P k.val
      = chunk (k0_pay451 v0 v2) (trip_k0_t1.sl.r arg5 X5 k) (trip_k0_t1.sl.r arg6 X6 k) v4 v5 v6 v7) (n : ℕ) (hn : n ≤ k0_t1_loop.trips) :
    st_k0_t1 (F := F) 𝒱 c bd arg0 harg0 arg1 harg1 arg2 harg2 arg3 harg3 arg4 harg4 arg5 harg5 arg6 harg6 arg7 harg7 arg8 harg8 v0 v2 v4 v5 v6 v7 X5 X6
      (k0_pay452, k0_pay452, k0_pay452, k0_pay452, k0_pay452, k0_pay452, k0_pay452, k0_pay452) n = eight (seen P) n := by
  induction n with
  | zero => rfl
  | succ n ih =>
    have e := st_k0_t1_succ (F := F) 𝒱 c bd arg0 harg0 arg1 harg1 arg2 harg2 arg3 harg3 arg4 harg4 arg5 harg5 arg6 harg6 arg7 harg7 arg8 harg8 v0 v2 v4 v5 v6 v7 X5 X6
      (k0_pay452, k0_pay452, k0_pay452, k0_pay452, k0_pay452, k0_pay452, k0_pay452, k0_pay452) ⟨n, hn⟩
    rw [trip_eq, ← hP, ih (Nat.le_of_succ_le hn)] at e
    refine e.trans ?_
    have h8 : seen P (n + 1 + 7) = P n := by
      rw [seen, if_neg (by omega)]
      exact congrArg P (by omega)
    show _ = (seen P (n + 1), seen P (n + 2), seen P (n + 3), seen P (n + 4), seen P (n + 5), seen P (n + 6), seen P (n + 7), seen P (n + 1 + 7))
    rw [h8]

end Cert.KernelIdeal.Mirror
-- ==== Proof.Bitonic.lean ====
module

public import proofs.«01_k».proof.Proof.Mirror
public import Idealize.ShloMosaic.Lib.SortNet.Sorts
public import Idealize.ShloMosaic.Lib.ValueLayout
public import Idealize.ShloMosaic.Lib.ValueIdx
public import Idealize.ShloMosaic.Lib.Pipeline.Value

/-! # The bitonic network over eight planes

Read entry `lane * 8 + plane` by entry, every exchange of the kernel is a stage of the bitonic sort of 1024
entries, so a row of scores comes out ascending and is a rearrangement of what went in. -/

@[expose] public section

set_option maxRecDepth 16384

noncomputable section

namespace Cert.KernelIdeal.Mirror

open Cert.KernelIdeal Cert.KernelIdeal.Gen Idealize.ShloMosaic Idealize.ShloMosaic.TcCoe
open Idealize.ShloMosaic.SortNet Idealize.ShloMosaic.ValueIdx

local notation "RPlane" => FVec Ideal S129x128 FTy.f32

/-! ## Lists -/

theorem pick_eq_getD {α : Type} (d : α) (L : List α) (i : ℕ) : pick d L i = L.getD i d := by
  induction L generalizing i with
  | nil => simp
  | cons x L ih =>
    cases i with
    | zero => rfl
    | succ i => exact (ih i).trans (by simp)

theorem pick_map_range {α : Type} (d : α) (n : ℕ) (f : ℕ → α) (i : ℕ) (hi : i < n) :
    pick d ((List.range n).map f) i = f i := by
  rw [pick_eq_getD]; simp [List.getD, hi]

theorem choose_true {α : Type} {b : Bool} (t e : α) (h : b = true) : choose b t e = t := by subst h; rfl
theorem choose_false {α : Type} {b : Bool} (t e : α) (h : b = false) : choose b t e = e := by subst h; rfl

/-! ## One stage of the network, at a position -/

/-- A stage of the ascending sort puts the smaller entry where the position's bit `s` and its level's bit agree. -/
theorem stage_at {α : Type*} [LinearOrder α] {p s l : ℕ} (hs : s < p) (hsl : s ≤ l) (v : Fin (2 ^ p) → α)
    (n : Fin (2 ^ p)) :
    Network.apply (SortNet.stage p s fun i => (decide (i.val &&& 2 ^ (l + 1) = 0)) == false) v n
      = if n.val.testBit s = n.val.testBit (l + 1) then min (v n) (v (partner p s n))
        else max (v n) (v (partner p s n)) := by
  have key : ∀ i : Fin (2 ^ p), (((decide (i.val &&& 2 ^ (l + 1) = 0)) == false) = true) ↔ i.val.testBit (l + 1) = true := by
    intro i
    have h := and_two_pow_eq_zero_iff_testBit i.val (l + 1)
    rw [beq_iff_eq, decide_eq_false_iff_not, h, Bool.not_eq_false]
  by_cases h : n.val &&& 2 ^ s = 0
  · have e := (apply_stage hs (fun i => (decide (i.val &&& 2 ^ (l + 1) = 0)) == false) v n h).1
    rw [e]
    have hb := (and_two_pow_eq_zero_iff_testBit _ _).1 h
    simp only [key, hb]
    cases n.val.testBit (l + 1) <;> simp
  · have h' := partner_and_of_set hs n h
    have e := (apply_stage hs (fun i => (decide (i.val &&& 2 ^ (l + 1) = 0)) == false) v _ h').2
    rw [partner_partner hs] at e
    rw [e]
    have hb : n.val.testBit s = true := by
      by_contra hc
      exact h ((and_two_pow_eq_zero_iff_testBit _ _).2 (by simpa using hc))
    have hl : (partner p s n).val.testBit (l + 1) = n.val.testBit (l + 1) := by
      rw [partner_val hs, Nat.testBit_xor, Nat.testBit_two_pow]
      have : s ≠ l + 1 := by omega
      simp [this]
    simp only [key, hb, hl]
    cases n.val.testBit (l + 1) <;> simp [min_comm, max_comm]

/-! ## Lanes -/

/-- A mask over lanes reads the same in every row. -/
theorem rows_apply (x : IVec S1x128 1) (r : Fin 129) (c : Fin 128) : rows x (ix2 r c) = x (ix2 (0 : Fin 1) c) := by
  show broadcastTo S129x128 (shapeCast S1x128 x shapeCasts_S1x128_S1x128) broadcasts_S1x128_S129x128 (ix2 r c) = _
  rw [shapeCast_self]
  exact broadcastTo_1b_ab_apply x _ r c

theorem lanes_apply (c : Fin 128) : lanes (ix2 (0 : Fin 1) c) = BitVec.ofNat 32 c.val := by
  show BitVec.ofNat 32 (0 * 128 + c.val) = _
  rw [Nat.zero_mul, Nat.zero_add]

/-- The mask of the lanes without bit `t`. -/
theorem clear_apply (t : ℕ) (ht : t ≤ 7) (c : Fin 128) :
    clear (Nat.pow 2 t) (ix2 (0 : Fin 1) c) = BitVec.ofBool (!(c.val.testBit t)) := by
  have h : ∀ t ≤ 7, ∀ c : Fin 128,
      IntOp.cmpi .eq (BitVec.ofNat 32 c.val &&& BitVec.ofNat 32 (Nat.pow 2 t)) 0#32 = BitVec.ofBool (!(c.val.testBit t)) := by
    decide +kernel
  rw [← h t ht c, ← lanes_apply c]
  rfl

/-- A plane rotated: lane `c` reads lane `c + a`, round the end. -/
theorem rotate_apply (x : RPlane) (a b : ℕ) (h : a + b = 128) (r : Fin 129) (c d : Fin 128)
    (hd : (c.val < b ∧ d.val = c.val + a) ∨ (b ≤ c.val ∧ d.val + b = c.val)) :
    rotate x a b h (ix2 r c) = x (ix2 r d) := by
  rcases hd with ⟨hc, hd⟩ | ⟨hc, hd⟩
  · have e := concatenate_pair_apply_left (t := S129x128) (1 : Fin 2)
      (extractStridedSlice ⟨2, ![129, b]⟩ ![0, a] x (slices_lanes a b h.le))
      (extractStridedSlice ⟨2, ![129, a]⟩ ![0, 0] x (slices_lanes 0 a (by omega)))
      (concat_lanes b a (by omega)) (ix2 r c) rfl (ix2 r (⟨c.val, hc⟩ : Fin b))
      (fun ax => by match ax with | ⟨0, _⟩ => rfl | ⟨1, _⟩ => rfl)
    refine e.trans ?_
    exact slice2_axis1_apply a x (slices_lanes a b h.le) r ⟨c.val, hc⟩ d (by simp only; omega)
  · have hlt : c.val - b < a := by have := c.isLt; omega
    have e := concatenate_pair_apply_right (t := S129x128) (1 : Fin 2)
      (extractStridedSlice ⟨2, ![129, b]⟩ ![0, a] x (slices_lanes a b h.le))
      (extractStridedSlice ⟨2, ![129, a]⟩ ![0, 0] x (slices_lanes 0 a (by omega)))
      (concat_lanes b a (by omega)) (ix2 r c) rfl rfl (ix2 r (⟨c.val - b, hlt⟩ : Fin a))
      (fun ax => by match ax with | ⟨0, _⟩ => intro _; rfl | ⟨1, _⟩ => intro hne; exact absurd rfl hne)
      (by show c.val - b + b = c.val; omega)
    refine e.trans ?_
    exact slice2_axis1_apply 0 x (slices_lanes 0 a (by omega)) r ⟨c.val - b, hlt⟩ d (by simp only; omega)

/-- Each lane reads the lane that differs from it by bit `t`. -/
theorem across_apply (x : RPlane) (t : ℕ) (ht : t < 7) (b : ℕ) (h : Nat.pow 2 t + b = 128) (r : Fin 129) (c d : Fin 128)
    (hd : d.val = c.val ^^^ 2 ^ t) :
    across x (Nat.pow 2 t) b h (ix2 r c) = x (ix2 r d) := by
  have hc := clear_apply t ht.le c
  have key : ∀ t < 7, ∀ c : Fin 128, if c.val.testBit t then 2 ^ t ≤ c.val ∧ (c.val ^^^ 2 ^ t) + 2 ^ t = c.val
      else c.val < 128 - 2 ^ t ∧ c.val ^^^ 2 ^ t = c.val + 2 ^ t := by decide +kernel
  have k := key t ht c
  have hp : Nat.pow 2 t = 2 ^ t := rfl
  show (if rows (clear (Nat.pow 2 t)) (ix2 r c) = 1#1 then rotate x (Nat.pow 2 t) b h (ix2 r c)
    else rotate x b (Nat.pow 2 t) (by omega) (ix2 r c)) = _
  rw [rows_apply, hc]
  cases hb : c.val.testBit t
  · rw [hb] at k
    rw [if_pos (show BitVec.ofBool (!false) = 1#1 from rfl)]
    simp only [Bool.false_eq_true, if_false] at k
    exact rotate_apply x _ _ h r c d (Or.inl ⟨by omega, by omega⟩)
  · rw [hb] at k
    rw [if_neg (by decide)]
    simp only [if_true] at k
    exact rotate_apply x _ _ _ r c d (Or.inr ⟨by omega, by omega⟩)

/-- The exchange within a plane: the smaller entry where the lane's bit `t` and its bit `u` agree. -/
theorem within_apply (l : ℕ) (hl : l - 2 ≤ 7) (x : RPlane) (t : ℕ) (ht : t < 7) (b : ℕ) (h : Nat.pow 2 t + b = 128)
    (r : Fin 129) (c d : Fin 128) (hd : d.val = c.val ^^^ 2 ^ t) :
    within l x (Nat.pow 2 t) b h (ix2 r c)
      = if c.val.testBit t = c.val.testBit (l - 2) then min (x (ix2 r c)) (x (ix2 r d))
        else max (x (ix2 r c)) (x (ix2 r d)) := by
  have h1 := clear_apply t ht.le c
  have h2 := clear_apply (l - 2) hl c
  have h3 := across_apply x t ht b h r c d hd
  show (if rows (xori (xori (clear (Nat.pow 2 t)) (clear (Nat.pow 2 (l - 2)))) (constantI S1x128 1 1#1)) (ix2 r c) = 1#1
    then min (x (ix2 r c)) (across x (Nat.pow 2 t) b h (ix2 r c))
    else max (x (ix2 r c)) (across x (Nat.pow 2 t) b h (ix2 r c))) = _
  rw [rows_apply, h3]
  have e : xori (xori (clear (Nat.pow 2 t)) (clear (Nat.pow 2 (l - 2)))) (constantI S1x128 1 1#1) (ix2 (0 : Fin 1) c)
      = (clear (Nat.pow 2 t) (ix2 (0 : Fin 1) c) ^^^ clear (Nat.pow 2 (l - 2)) (ix2 (0 : Fin 1) c)) ^^^ 1#1 := rfl
  rw [e, h1, h2]
  cases c.val.testBit t <;> cases c.val.testBit (l - 2) <;> rfl

/-! ## A stage of the kernel is a stage of the network -/

/-- A row of the eight planes as one vector, entry `lane * 8 + plane`. -/
def vec (L : List RPlane) (r : Fin 129) : Fin (2 ^ 10) → EReal := fun n =>
  pick blank L (n.val % 8) (ix2 r (⟨n.val / 8, by have := n.isLt; omega⟩ : Fin 128))

theorem testBit_low (n k : ℕ) (hk : k < 3) : n.testBit k = (n % 8).testBit k := by
  have := Nat.testBit_mod_two_pow n 3 k
  rw [show (2 : ℕ) ^ 3 = 8 from rfl] at this
  rw [this]; simp [hk]

theorem testBit_high (n k : ℕ) (hk : 3 ≤ k) : n.testBit k = (n / 8).testBit (k - 3) := by
  have := Nat.testBit_div_two_pow (n := 3) n (k - 3)
  rw [show (2 : ℕ) ^ 3 = 8 from rfl] at this
  rw [this]; congr 1; omega

theorem lower_apply (l q : ℕ) (hl : l < 10) (a b : RPlane) (r : Fin 129) (c : Fin 128) (n : ℕ)
    (hq : n % 8 = q) (hc : n / 8 = c.val) :
    lower l q a b (ix2 r c) = if n.testBit (l + 1) then max (a (ix2 r c)) (b (ix2 r c)) else min (a (ix2 r c)) (b (ix2 r c)) := by
  by_cases h : l < 2
  · have hb : Nat.blt l 2 = true := by rw [Nat.blt_eq]; exact h
    rw [lower, choose_true _ _ hb, testBit_low n (l + 1) (by omega), hq]
    cases ht : q.testBit (l + 1)
    · rw [choose_true]
      · rfl
      · rw [Nat.beq_eq]; exact (and_two_pow_eq_zero_iff_testBit _ _).2 ht
    · rw [choose_false]
      · rfl
      · rw [← Bool.not_eq_true, Nat.beq_eq]
        intro h0
        have := (and_two_pow_eq_zero_iff_testBit q (l + 1)).1 h0
        rw [ht] at this; cases this
  · have hb : Nat.blt l 2 = false := by
      rw [← Bool.not_eq_true, Nat.blt_eq]; exact h
    rw [lower, choose_false _ _ hb, testBit_high n (l + 1) (by omega), hc]
    show (if rows (clear (Nat.pow 2 (l - 2))) (ix2 r c) = 1#1 then _ else _) = _
    rw [rows_apply, clear_apply _ (by omega), show l + 1 - 3 = l - 2 by omega]
    cases c.val.testBit (l - 2) <;> rfl

theorem upper_apply (l q : ℕ) (hl : l < 10) (a b : RPlane) (r : Fin 129) (c : Fin 128) (n : ℕ)
    (hq : n % 8 = q) (hc : n / 8 = c.val) :
    upper l q a b (ix2 r c) = if n.testBit (l + 1) then min (a (ix2 r c)) (b (ix2 r c)) else max (a (ix2 r c)) (b (ix2 r c)) := by
  by_cases h : l < 2
  · have hb : Nat.blt l 2 = true := by rw [Nat.blt_eq]; exact h
    rw [upper, choose_true _ _ hb, testBit_low n (l + 1) (by omega), hq]
    cases ht : q.testBit (l + 1)
    · rw [choose_true]
      · rfl
      · rw [Nat.beq_eq]; exact (and_two_pow_eq_zero_iff_testBit _ _).2 ht
    · rw [choose_false]
      · rfl
      · rw [← Bool.not_eq_true, Nat.beq_eq]
        intro h0
        have := (and_two_pow_eq_zero_iff_testBit q (l + 1)).1 h0
        rw [ht] at this; cases this
  · have hb : Nat.blt l 2 = false := by
      rw [← Bool.not_eq_true, Nat.blt_eq]; exact h
    rw [upper, choose_false _ _ hb, testBit_high n (l + 1) (by omega), hc]
    show (if rows (clear (Nat.pow 2 (l - 2))) (ix2 r c) = 1#1 then _ else _) = _
    rw [rows_apply, clear_apply _ (by omega), show l + 1 - 3 = l - 2 by omega]
    cases c.val.testBit (l - 2) <;> rfl

theorem vec_of (L : List RPlane) (r : Fin 129) (n : Fin (2 ^ 10)) (q : ℕ) (c : Fin 128) (hq : n.val % 8 = q)
    (hc : n.val / 8 = c.val) : vec L r n = pick blank L q (ix2 r c) := by
  subst hq
  have e : (⟨n.val / 8, by have := n.isLt; omega⟩ : Fin 128) = c := Fin.ext hc
  rw [vec, e]

theorem vec_stage (L : List RPlane) (l s : ℕ) (hl : l < 10) (hsl : s ≤ l) (r : Fin 129) :
    vec (stage L (l, s)) r
      = Network.apply (SortNet.stage 10 s fun i => (decide (i.val &&& 2 ^ (l + 1) = 0)) == false) (vec L r) := by
  funext n
  rw [stage_at (by omega) hsl]
  have hn := n.isLt
  have hp := partner_val (show s < 10 by omega) n
  obtain ⟨q, hq⟩ : ∃ q, n.val % 8 = q := ⟨_, rfl⟩
  obtain ⟨c, hc⟩ : ∃ c : Fin 128, n.val / 8 = c.val := ⟨⟨n.val / 8, by omega⟩, rfl⟩
  have hq8 : q < 8 := by omega
  have e0 : vec (stage L (l, s)) r n = exchange L l s q (ix2 r c) := by
    rw [vec_of _ r n q c hq hc]
    exact congrFun (pick_map_range blank 8 (exchange L l s) q hq8) _
  have e1 : vec L r n = pick blank L q (ix2 r c) := vec_of _ r n q c hq hc
  rw [e0, e1]
  have hmod : (n.val ^^^ 2 ^ s) % 8 = q ^^^ (2 ^ s % 8) := by
    have := Nat.xor_mod_two_pow (a := n.val) (b := 2 ^ s) (n := 3)
    rw [show (2 : ℕ) ^ 3 = 8 from rfl] at this
    rw [this, hq]
  have hdiv : (n.val ^^^ 2 ^ s) / 8 = c.val ^^^ (2 ^ s / 8) := by
    have := Nat.xor_div_two_pow (a := n.val) (b := 2 ^ s) (n := 3)
    rw [show (2 : ℕ) ^ 3 = 8 from rfl] at this
    rw [this, hc]
  by_cases h3 : s < 3
  · have hb : Nat.blt s 3 = true := by rw [Nat.blt_eq]; exact h3
    have hm : 2 ^ s % 8 = 2 ^ s ∧ 2 ^ s / 8 = 0 := by
      have : ∀ s < 3, 2 ^ s % 8 = 2 ^ s ∧ 2 ^ s / 8 = 0 := by decide
      exact this s h3
    rw [hm.1] at hmod
    rw [hm.2, Nat.xor_zero] at hdiv
    have e2 : vec L r (partner 10 s n) = pick blank L (q ^^^ 2 ^ s) (ix2 r c) :=
      vec_of _ r _ _ c (by rw [hp, hmod]) (by rw [hp, hdiv])
    rw [e2, exchange, choose_true _ _ hb]
    have hx : ∀ s < 3, ∀ q < 8, (q < q ^^^ 2 ^ s ↔ q.testBit s = false) := by decide
    have hbit : n.val.testBit s = q.testBit s := by rw [testBit_low _ _ h3, hq]
    by_cases hlt : q < q ^^^ 2 ^ s
    · rw [choose_true _ _ (by rw [Nat.blt_eq]; exact hlt), lower_apply l q hl _ _ r c n.val hq hc, hbit,
        (hx s h3 q hq8).1 hlt]
      cases n.val.testBit (l + 1) <;> rfl
    · have hset : q.testBit s = true := by
        by_contra hc'
        exact hlt ((hx s h3 q hq8).2 (by simpa using hc'))
      have hlv : n.val.testBit (l + 1) = (n.val ^^^ 2 ^ s).testBit (l + 1) := by
        rw [Nat.testBit_xor, Nat.testBit_two_pow]
        have : s ≠ l + 1 := by omega
        simp [this]
      rw [choose_false _ _ (by rw [← Bool.not_eq_true, Nat.blt_eq]; exact hlt),
        show q.xor (Nat.pow 2 s) = q ^^^ 2 ^ s from rfl,
        upper_apply l _ hl _ _ r c (n.val ^^^ 2 ^ s) hmod hdiv, hbit, hset, ← hlv]
      cases n.val.testBit (l + 1)
      · rw [if_neg (by decide), if_neg (by decide)]; exact max_comm _ _
      · rw [if_pos rfl, if_pos rfl]; exact min_comm _ _
  · have hb : Nat.blt s 3 = false := by rw [← Bool.not_eq_true, Nat.blt_eq]; exact h3
    obtain ⟨t, rfl⟩ : ∃ t, s = t + 3 := ⟨s - 3, by omega⟩
    have ht : t < 7 := by omega
    have hm : 2 ^ (t + 3) % 8 = 0 ∧ 2 ^ (t + 3) / 8 = 2 ^ t := by
      have : ∀ t < 7, 2 ^ (t + 3) % 8 = 0 ∧ 2 ^ (t + 3) / 8 = 2 ^ t := by decide
      exact this t ht
    rw [hm.1, Nat.xor_zero] at hmod
    rw [hm.2] at hdiv
    have hlt : c.val ^^^ 2 ^ t < 128 := by
      have := Nat.xor_lt_two_pow (n := 7) c.isLt (Nat.pow_lt_pow_right (by decide) ht)
      exact this
    have e2 : vec L r (partner 10 (t + 3) n) = pick blank L q (ix2 r (⟨c.val ^^^ 2 ^ t, hlt⟩ : Fin 128)) :=
      vec_of _ r _ _ _ (by rw [hp, hmod]) (by rw [hp, hdiv])
    have ht' : (t + 3 - 3) % 7 = t := by omega
    have ew : exchange L l (t + 3) q = within l (pick blank L q) (Nat.pow 2 t) (128 - Nat.pow 2 t)
        (by have := split128 t; rwa [Nat.mod_eq_of_lt ht] at this) := by
      have hw : ∀ (u : ℕ) (hu : u = t) (h : Nat.pow 2 u + (128 - Nat.pow 2 u) = 128),
          within l (pick blank L q) (Nat.pow 2 u) (128 - Nat.pow 2 u) h
            = within l (pick blank L q) (Nat.pow 2 t) (128 - Nat.pow 2 t) (hu ▸ h) := by
        intro u hu h; subst hu; rfl
      rw [exchange, choose_false _ _ hb]
      exact hw _ ht' _
    rw [e2, ew, within_apply l (by omega) _ t ht _ _ r c ⟨c.val ^^^ 2 ^ t, hlt⟩ rfl,
      testBit_high n.val (t + 3) (by omega), testBit_high n.val (l + 1) (by omega), hc,
      show t + 3 - 3 = t by omega, show l + 1 - 3 = l - 2 by omega]

/-- The network as a sequence of stages. -/
def stages : List (ℕ × ℕ) := (List.range 10).flatMap fun l => (List.range (l + 1)).reverse.map fun s => (l, s)

theorem steps_eq : steps = stages := by decide +kernel

theorem vec_foldl (r : Fin 129) (S : List (ℕ × ℕ)) (hS : ∀ p ∈ S, p.1 < 10 ∧ p.2 ≤ p.1) (L : List RPlane) :
    vec (S.foldl stage L) r = Network.apply (S.flatMap fun p =>
      SortNet.stage 10 p.2 fun i => (decide (i.val &&& 2 ^ (p.1 + 1) = 0)) == false) (vec L r) := by
  induction S generalizing L with
  | nil => rfl
  | cons p S ih =>
    rw [List.foldl_cons, ih (fun q hq => hS q (List.mem_cons_of_mem _ hq)), List.flatMap_cons, Network.apply_append,
      vec_stage L p.1 p.2 (hS p List.mem_cons_self).1 (hS p List.mem_cons_self).2]

theorem vec_sorted (r : Fin 129) (L : List RPlane) :
    vec (sortedScores L) r = Network.apply (sortNet 10 false) (vec L r) := by
  have e : (stages.flatMap fun p =>
      SortNet.stage 10 p.2 fun i => (decide (i.val &&& 2 ^ (p.1 + 1) = 0)) == false) = sortNet 10 false := by
    unfold stages sortNet
    simp only [List.flatMap_assoc, List.flatMap_map]
  rw [sortedScores, vec_foldl r steps (by decide +kernel), steps_eq, e]

/-- A row of scores comes out ascending. -/
theorem vec_sorted_monotone (r : Fin 129) (L : List RPlane) : Monotone (vec (sortedScores L) r) := by
  rw [vec_sorted]; exact sortNet_apply_monotone 10 _

/-- A row of scores comes out rearranged. -/
theorem vec_sorted_perm (r : Fin 129) (L : List RPlane) :
    ∃ σ : Equiv.Perm (Fin (2 ^ 10)), vec (sortedScores L) r = vec L r ∘ σ := by
  rw [vec_sorted]; exact Network.exists_perm _ _

end Cert.KernelIdeal.Mirror
-- ==== Proof.Sorting.lean ====
module

public import proofs.«01_k».proof.Proof.Gen.ReferenceIdeal.Run
public import Idealize.ShloMosaic.PureOps.Ideal.Laws
public import Idealize.ShloMosaic.Lib.SortFacts
public import Idealize.ShloMosaic.Lib.ValueIdx
public import Mathlib.Data.List.FinRange
public import Mathlib.Logic.Equiv.Fintype

/-! # Ascending rearrangements

What a sort of the reference does to one fiber, and that two ascending rearrangements agree, also when one of them
sorts the same entries padded with the largest. -/

@[expose] public section

set_option maxRecDepth 16384

noncomputable section

namespace Cert.Sorting

open Idealize.ShloMosaic Idealize.ShloMosaic.ValueIdx

/-- `V` lists the entries of `v` in ascending order. -/
def Ascending {n : ℕ} (V v : Fin n → EReal) : Prop := Monotone V ∧ ∃ σ : Equiv.Perm (Fin n), V = v ∘ σ

/-- Two ascending rearrangements of the same entries agree. -/
theorem monotone_rearrangement_unique {n : ℕ} {f : Fin n → EReal} {σ τ : Equiv.Perm (Fin n)} (hσ : Monotone (f ∘ σ))
    (hτ : Monotone (f ∘ τ)) : f ∘ σ = f ∘ τ := by
  apply List.ofFn_injective
  refine List.Perm.eq_of_pairwise (le := fun a b => a ≤ b) (fun _ _ _ _ h1 h2 => le_antisymm h1 h2) ?_ ?_
    ((Equiv.Perm.ofFn_comp_perm σ f).trans (Equiv.Perm.ofFn_comp_perm τ f).symm)
  · rw [List.pairwise_ofFn]; exact fun i j hij => hσ hij.le
  · rw [List.pairwise_ofFn]; exact fun i j hij => hτ hij.le

/-- The entries of `w` are those of `v`, at the places `ρ`, and the largest number elsewhere: then an ascending
rearrangement of `w` begins with that of `v` and goes on with the largest number. -/
theorem ascending_padded {m n : ℕ} (hmn : m ≤ n) (ρ : Fin m → Fin n) (hρ : Function.Injective ρ) (v V : Fin m → EReal)
    (w W : Fin n → EReal) (hw : ∀ r, w (ρ r) = v r) (hpad : ∀ k, (∀ r, ρ r ≠ k) → w k = ⊤)
    (hV : Ascending V v) (hW : Ascending W w) (k : Fin n) :
    W k = if h : k.val < m then V ⟨k.val, h⟩ else ⊤ := by
  classical
  obtain ⟨hVm, σ, rfl⟩ := hV
  obtain ⟨hWm, τ, rfl⟩ := hW
  let e : {k : Fin n // k.val < m} ≃ {k : Fin n // ∃ r, ρ r = k} :=
    Equiv.ofBijective (fun k => ⟨ρ (σ ⟨k.1.val, k.2⟩), _, rfl⟩) (by
      constructor
      · intro a b hab
        have h1 := σ.injective (hρ (congrArg Subtype.val hab))
        exact Subtype.ext (Fin.ext (Fin.mk.inj h1))
      · rintro ⟨_, r, rfl⟩
        refine ⟨⟨⟨(σ.symm r).val, lt_of_lt_of_le (σ.symm r).isLt hmn⟩, (σ.symm r).isLt⟩, Subtype.ext ?_⟩
        show ρ (σ (σ.symm r)) = ρ r
        rw [Equiv.apply_symm_apply])
  have hπ : ∀ k : Fin n, (w ∘ e.extendSubtype) k = if h : k.val < m then (v ∘ σ) ⟨k.val, h⟩ else ⊤ := by
    intro k
    by_cases h : k.val < m
    · rw [dif_pos h]
      show w (e.extendSubtype k) = _
      rw [e.extendSubtype_apply_of_mem k h]
      exact hw _
    · rw [dif_neg h]
      exact hpad _ fun r hr => e.extendSubtype_not_mem k h ⟨r, hr⟩
  have hmono : Monotone (w ∘ e.extendSubtype) := by
    intro a b hab
    rw [hπ a, hπ b]
    by_cases hb : b.val < m
    · have ha : a.val < m := lt_of_le_of_lt hab hb
      rw [dif_pos hb, dif_pos ha]
      exact hVm hab
    · rw [dif_neg hb]; exact le_top
  have := monotone_rearrangement_unique hWm hmono
  rw [congrFun this k, hπ k]

theorem ascending_unique {n : ℕ} {V W v : Fin n → EReal} (hV : Ascending V v) (hW : Ascending W v) : V = W := by
  obtain ⟨hVm, σ, rfl⟩ := hV
  obtain ⟨hWm, τ, rfl⟩ := hW
  exact monotone_rearrangement_unique hVm hWm

/-- The comparison of the reference's sorts is that of the numbers. -/
theorem comparator_d1_one_iff (a b : EReal) :
    (Cert.ReferenceIdeal.comparator_f32_d1 (F := Ideal) a b = 1#1) ↔ a < b := by
  have hz : (FloatOps.ofBits .f32 0x00000000#32 : Ideal .f32) = (0 : EReal) := Ideal.ofBits_zero_f32
  have h : ∀ x : Ideal .f32, Scalar.select (FloatOps.cmpf (F := Ideal) (φ := .f32) .une x x) (FloatOps.ofBits .f32 0x7FC00000#32)
      (Scalar.select (FloatOps.cmpf (F := Ideal) (φ := .f32) .oeq x (FloatOps.ofBits .f32 0x00000000#32))
        (FloatOps.ofBits .f32 0x00000000#32) x) = x := by
    intro x
    have e1 : FloatOps.cmpf (F := Ideal) (φ := .f32) .une x x = 0#1 := by
      show BitVec.ofBool (decide (x ≠ x)) = 0#1
      simp
    rw [e1]
    show Scalar.select (FloatOps.cmpf (F := Ideal) (φ := .f32) .oeq x (FloatOps.ofBits .f32 0x00000000#32))
        (FloatOps.ofBits .f32 0x00000000#32) x = x
    rw [hz]
    by_cases hx : x = 0
    · subst hx; unfold Scalar.select; split <;> rfl
    · have e2 : FloatOps.cmpf (F := Ideal) (φ := .f32) .oeq x (0 : EReal) = 0#1 := by
        show BitVec.ofBool (decide (x = 0)) = 0#1
        simp [hx]
      rw [e2]; rfl
  unfold Cert.ReferenceIdeal.comparator_f32_d1
  simp only []
  rw [h a, h b]
  show BitVec.ofBool (decide (a < b)) = 1#1 ↔ _
  by_cases hab : a < b <;> simp [hab]

theorem comparator_d0_one_iff (a b : EReal) :
    (Cert.ReferenceIdeal.comparator_f32_d0 (F := Ideal) a b = 1#1) ↔ a < b := comparator_d1_one_iff a b

/-- A stable sort by a comparison of the numbers lists a fiber in ascending order. -/
theorem ascending_sortedFrom {n : ℕ} (cmp : EReal → EReal → BitVec 1) (hc : ∀ a b, cmp a b = 1#1 ↔ a < b)
    (v : Fin n → EReal) :
    Ascending (fun k => v (sortedFrom (fun i j => cmp (v i) (v j) == 1#1) k)) v := by
  have hR : ∀ i j, ((cmp (v i) (v j) == 1#1) = true) ↔ v i < v j := fun i j => by rw [beq_iff_eq]; exact hc _ _
  refine ⟨fun i j hij => ?_, ⟨Equiv.ofBijective _ ⟨sortedFrom_injective _, sortedFrom_surjective _⟩, rfl⟩⟩
  rcases eq_or_lt_of_le hij with rfl | hlt
  · exact le_rfl
  · have := sortedFrom_noInversion (fun i j => cmp (v i) (v j) == 1#1) (fun i j => cmp (v i) (v j) == 1#1)
      (fun a b h => by rw [← Bool.not_eq_true, hR]; exact not_lt.2 ((hR a b).1 h).le)
      (fun a b h => h)
      (fun a b c h1 h2 => by
        rw [← Bool.not_eq_true, hR, not_lt] at *
        exact h2.trans h1) i j hlt
    rw [← Bool.not_eq_true, hR, not_lt] at this
    exact this

end Cert.Sorting
-- ==== Proof.Spec.lean ====
module

public import proofs.«01_k».proof.Proof.Pairs
public import proofs.«01_k».proof.Proof.Sorting

/-! # The mathematics of the problem

Thirty-two points of the plane, their inner products, and what both programs compute from them. -/

@[expose] public section

noncomputable section

namespace Cert.Spec

open Idealize.ShloMosaic Cert.Pairs Cert.Sorting

/-- The entries in ascending order. -/
def asc {n : ℕ} (v : Fin n → EReal) : Fin n → EReal :=
  fun k => v (sortedFrom (fun i j => BitVec.ofBool (decide (v i < v j)) == 1#1) k)

theorem asc_ascending {n : ℕ} (v : Fin n → EReal) : Ascending (asc v) v :=
  ascending_sortedFrom (fun a b => BitVec.ofBool (decide (a < b))) (fun a b => by by_cases h : a < b <;> simp [h]) v

/-- Point `k` (0 or 1) of pair `c`. -/
def point (c : Fin 992) (k : ℕ) : Fin 32 :=
  ⟨if k = 0 then first c else second c, by
    split
    · exact first_lt c.isLt
    · exact second_lt c⟩

/-- The `j`-th point outside pair `c`. -/
def other (c : Fin 992) (j : Fin 30) : Fin 32 := ⟨rest c j, rest_lt j.isLt⟩

/-- The inner product of two points. -/
def gram (x : Fin 2 → Fin 32 → EReal) (a b : Fin 32) : EReal := ∑ i, x i a * x i b

theorem gram_comm (x : Fin 2 → Fin 32 → EReal) (a b : Fin 32) : gram x a b = gram x b a :=
  Finset.sum_congr rfl fun _ _ => mul_comm _ _

/-- Point `k` projected by the inner products with the points of pair `c` along direction `l`. -/
def proj (x : Fin 2 → Fin 32 → EReal) (w : Fin 129 → Fin 2 → EReal) (c : Fin 992) (l : Fin 129) (k : Fin 32) : EReal :=
  ∑ i : Fin 2, gram x (point c i) k * w l i

/-- The weighted sum of the projections of the other points in ascending order. -/
def inner (x : Fin 2 → Fin 32 → EReal) (w : Fin 129 → Fin 2 → EReal) (u : Fin 129 → Fin 30 → EReal) (c : Fin 992)
    (l : Fin 129) : EReal :=
  ∑ j, u l j * asc (fun j => proj x w c l (other c j)) j

/-- The score of pair `c` along direction `l`: its four inner products and its weighted sums, weighted. -/
def score (x : Fin 2 → Fin 32 → EReal) (w : Fin 129 → Fin 2 → EReal) (u : Fin 129 → Fin 30 → EReal)
    (v : Fin 129 → Fin 133 → EReal) (l : Fin 129) (c : Fin 992) : EReal :=
  ∑ e : Fin 4, gram x (point c (e.val / 2)) (point c (e.val % 2)) * v l ⟨e, by omega⟩
    + ∑ e : Fin 129, inner x w u c e * v l ⟨4 + e, by omega⟩

/-- The result: the weighted sum of the scores in ascending order. -/
def result (x : Fin 2 → Fin 32 → EReal) (w : Fin 129 → Fin 2 → EReal) (u : Fin 129 → Fin 30 → EReal)
    (v : Fin 129 → Fin 133 → EReal) (z : Fin 129 → Fin 992 → EReal) (l : Fin 129) : EReal :=
  ∑ c, z l c * asc (score x w u v l) c

end Cert.Spec
-- ==== Proof.OddEven.lean ====
module

public import proofs.«01_k».proof.Proof.Bitonic
public import Idealize.ShloMosaic.Lib.SortNet.OddEvenSort
public import Mathlib.Order.OrderDual

/-! # The odd-even merge sort of the 32 distance planes

Read at one position, the layers of the kernel are the odd-even merge network of 32 entries, in the dual order: the
entries come out ascending and are a rearrangement of what went in. -/

@[expose] public section

set_option maxRecDepth 16384

noncomputable section

namespace Cert.KernelIdeal.Mirror

open Cert.KernelIdeal Cert.KernelIdeal.Gen Idealize.ShloMosaic Idealize.ShloMosaic.TcCoe
open Idealize.ShloMosaic.SortNet Idealize.ShloMosaic.ValueIdx

local notation "RPlane" => FVec Ideal S129x128 FTy.f32

/-- The pairs that a layer's table compares, the first of a pair written first. -/
def pairsOf (t : List ℕ) : List (ℕ × ℕ) :=
  ((List.range 32).filter fun i => Nat.blt i (pick 0 t i)).map fun i => (i, pick 0 t i)

/-- A table pairs the positions off. -/
def Paired (t : List ℕ) : Prop := ∀ i < 32, pick 0 t i < 32 ∧ pick 0 t (pick 0 t i) = i

instance (t : List ℕ) : Decidable (Paired t) := inferInstanceAs (Decidable (∀ i < 32, _ ∧ _))

theorem layers_paired : ∀ t ∈ layers, Paired t := by decide +kernel

theorem layers_pairs : oddEvenPairs 5 = layers.flatMap pairsOf := by decide +kernel

theorem mem_pairsOf {t : List ℕ} {a b : ℕ} : (a, b) ∈ pairsOf t ↔ a < 32 ∧ a < b ∧ b = pick 0 t a := by
  unfold pairsOf
  simp only [List.mem_map, List.mem_filter, List.mem_range, Prod.mk.injEq, Nat.blt_eq]
  constructor
  · rintro ⟨i, ⟨h1, h2⟩, rfl, rfl⟩; exact ⟨h1, h2, rfl⟩
  · rintro ⟨h1, h2, rfl⟩; exact ⟨a, ⟨h1, h2⟩, rfl, rfl⟩

instance (c d : Cmpx 32) : Decidable (Cmpx.Disjoint c d) :=
  inferInstanceAs (Decidable (c.lo ≠ d.lo ∧ c.lo ≠ d.hi ∧ c.hi ≠ d.lo ∧ c.hi ≠ d.hi))

/-- A layer touches no position twice. -/
theorem layers_disjoint : ∀ t ∈ layers, (Network.ofPairs 32 (pairsOf t)).Pairwise Cmpx.Disjoint := by decide +kernel

/-- A layer of the network: the larger entry of a pair to its first position. -/
theorem layer_net {α : Type*} [LinearOrder α] (t : List ℕ) (ht : Paired t)
    (hd : (Network.ofPairs 32 (pairsOf t)).Pairwise Cmpx.Disjoint) (v : Fin 32 → α) (i : Fin 32) :
    Network.apply (Network.ofPairs 32 (pairsOf t)) v i
      = if i.val < pick 0 t i.val then max (v i) (v ⟨pick 0 t i.val, (ht i i.isLt).1⟩)
        else if pick 0 t i.val < i.val then min (v ⟨pick 0 t i.val, (ht i i.isLt).1⟩) (v i) else v i := by
  obtain ⟨h1, h2⟩ := ht i i.isLt
  by_cases hlt : i.val < pick 0 t i.val
  · have hm : (⟨⟨pick 0 t i.val, h1⟩, i, fun e => absurd (congrArg Fin.val e) (by simp only; omega)⟩ : Cmpx 32)
        ∈ Network.ofPairs 32 (pairsOf t) := by
      rw [mem_ofPairs]; exact mem_pairsOf.2 ⟨i.isLt, hlt, rfl⟩
    have e := (Network.apply_of_mem_of_disjoint _ hd _ hm v).2
    rw [if_pos hlt]
    exact e.trans (max_comm _ _)
  · rw [if_neg hlt]
    by_cases hgt : pick 0 t i.val < i.val
    · have hm : (⟨i, ⟨pick 0 t i.val, h1⟩, fun e => absurd (congrArg Fin.val e) (by simp only; omega)⟩ : Cmpx 32)
          ∈ Network.ofPairs 32 (pairsOf t) := by
        rw [mem_ofPairs]; exact mem_pairsOf.2 ⟨h1, hgt, h2.symm⟩
      have e := (Network.apply_of_mem_of_disjoint _ hd _ hm v).1
      rw [if_pos hgt]
      exact e.trans (min_comm _ _)
    · rw [if_neg hgt]
      refine Network.apply_of_not_touched _ v i fun c hc => ?_
      rw [mem_ofPairs, mem_pairsOf] at hc
      obtain ⟨c1, c2, c3⟩ := hc
      constructor
      · intro e
        rw [e] at hgt hlt h2
        have := (ht c.hi.val c1).2
        rw [← c3] at this
        omega
      · intro e
        rw [e] at hgt hlt
        omega

/-- The entries of 32 planes at one position. -/
def col (L : List RPlane) (r : Fin 129) (c : Fin 128) : Fin (2 ^ 5) → EReal := fun i => pick blank L i.val (ix2 r c)

theorem col_layer (L : List RPlane) (t : List ℕ) (ht : Paired t)
    (hd : (Network.ofPairs 32 (pairsOf t)).Pairwise Cmpx.Disjoint) (r : Fin 129) (c : Fin 128) :
    (fun i => OrderDual.toDual (col (layer L t) r c i))
      = Network.apply (Network.ofPairs 32 (pairsOf t)) fun i => OrderDual.toDual (col L r c i) := by
  funext i
  rw [layer_net t ht hd]
  have e : col (layer L t) r c i = compared L t i.val (ix2 r c) :=
    congrFun (pick_map_range blank 32 (compared L t) i.val i.isLt) _
  rw [e, compared]
  by_cases hlt : i.val < pick 0 t i.val
  · rw [choose_true _ _ (by rw [Nat.blt_eq]; exact hlt), if_pos hlt]; rfl
  · rw [choose_false _ _ (by rw [← Bool.not_eq_true, Nat.blt_eq]; exact hlt), if_neg hlt]
    by_cases hgt : pick 0 t i.val < i.val
    · rw [choose_true _ _ (by rw [Nat.blt_eq]; exact hgt), if_pos hgt]; rfl
    · rw [choose_false _ _ (by rw [← Bool.not_eq_true, Nat.blt_eq]; exact hgt), if_neg hgt]; rfl

theorem col_foldl (r : Fin 129) (c : Fin 128) (T : List (List ℕ)) (hT : ∀ t ∈ T, t ∈ layers) (L : List RPlane) :
    (fun i => OrderDual.toDual (col (T.foldl layer L) r c i))
      = Network.apply (Network.ofPairs 32 (T.flatMap pairsOf)) fun i => OrderDual.toDual (col L r c i) := by
  induction T generalizing L with
  | nil => rfl
  | cons t T ih =>
    rw [List.foldl_cons, ih (fun q hq => hT q (List.mem_cons_of_mem _ hq)), ofPairs_flatMap, ofPairs_flatMap,
      List.flatMap_cons, Network.apply_append]
    have ht := hT t List.mem_cons_self
    exact congrArg _ (col_layer L t (layers_paired t ht) (layers_disjoint t ht) r c)

theorem col_sorted (r : Fin 129) (c : Fin 128) (L : List RPlane) :
    (fun i => OrderDual.toDual (col (sortedPlanes L) r c i))
      = Network.apply (oddEvenNet 5) fun i => OrderDual.toDual (col L r c i) := by
  rw [sortedPlanes, col_foldl r c layers (fun _ h => h), ← layers_pairs]
  rfl

/-- The planes come out ascending. -/
theorem col_sorted_monotone (r : Fin 129) (c : Fin 128) (L : List RPlane) : Monotone (col (sortedPlanes L) r c) := by
  have h := oddEvenNet_antitone 5 fun i => OrderDual.toDual (col L r c i)
  rw [← col_sorted] at h
  intro i j hij
  exact OrderDual.toDual_le_toDual.1 (h hij)

/-- The planes come out rearranged. -/
theorem col_sorted_perm (r : Fin 129) (c : Fin 128) (L : List RPlane) :
    ∃ σ : Equiv.Perm (Fin (2 ^ 5)), col (sortedPlanes L) r c = col L r c ∘ σ := by
  obtain ⟨σ, h⟩ := Network.exists_perm (oddEvenNet 5) fun i => OrderDual.toDual (col L r c i)
  rw [← col_sorted] at h
  exact ⟨σ, funext fun i => congrArg OrderDual.ofDual (congrFun h i)⟩

end Cert.KernelIdeal.Mirror
-- ==== Proof.Chunk.lean ====
module

public import proofs.«01_k».proof.Proof.Spec
public import proofs.«01_k».proof.Proof.OddEven
public import Idealize.ShloMosaic.Lib.Pointwise
public import Idealize.ShloMosaic.Lib.IdealHost

/-! # What one chunk of pairs computes

At a lane whose column of the one-hot tables marks the two points of a pair, the chunk's value is the pair's score. -/

@[expose] public section

set_option maxRecDepth 16384

noncomputable section

namespace Cert.KernelIdeal.Mirror

open Cert.KernelIdeal Cert.KernelIdeal.Gen Idealize.ShloMosaic Cert.Pairs Cert.Spec Cert.Sorting

theorem named_big : (Named.named κ "big" 0x7149F2CA#32 : Ideal .f32) = (⊤ : EReal) := rfl

theorem half : Ideal.ofBits .f32 0x3F000000#32 = ((1 / 2 : ℝ) : EReal) := by
  simp [Ideal.ofBits, Ideal.ieee, -EReal.coe_mul]; norm_num

theorem half_pos : (0 : EReal) < Ideal.ofBits .f32 0x3F000000#32 := by
  rw [half]; exact_mod_cast (by norm_num : (0 : ℝ) < 1 / 2)

theorem half_lt_one : Ideal.ofBits .f32 0x3F000000#32 < (1 : EReal) := by
  rw [half]; exact_mod_cast (by norm_num : (1 / 2 : ℝ) < 1)

/-- What a chunk's tables say at lane `r`: the lane holds pair `c`. -/
structure Holds (x : Fin 2 → Fin 32 → EReal) (w : Fin 129 → Fin 2 → EReal) (c : Fin 992) (r : Fin 128)
    (G : FVec Ideal S32x32 .f32) (p0 p1 : FVec Ideal S32x128 .f32) (ws0 ws1 : FVec Ideal S129x1 .f32) : Prop where
  gram : ∀ a b, G (ix2 a b) = Spec.gram x a b
  fst : ∀ k, p0 (ix2 k r) = if k = point c 0 then 1 else 0
  snd : ∀ k, p1 (ix2 k r) = if k = point c 1 then 1 else 0
  dir0 : ∀ l, ws0 (ix2 l 0) = w l 0
  dir1 : ∀ l, ws1 (ix2 l 0) = w l 1

variable {x : Fin 2 → Fin 32 → EReal} {w : Fin 129 → Fin 2 → EReal} {c : Fin 992} {r : Fin 128}
  {G : FVec Ideal S32x32 .f32} {p0 p1 : FVec Ideal S32x128 .f32} {ws0 ws1 : FVec Ideal S129x1 .f32}

theorem pay2_apply (h : Holds x w c r G p0 p1 ws0 ws1) (k : Fin 32) :
    k0_pay2 G p0 (ix2 k r) = gram x k (point c 0) := by
  pointwise [k0_pay2]
  simp only [h.gram, h.fst, mul_ite, mul_one, mul_zero, Finset.sum_ite_eq', Finset.mem_univ, if_true]

theorem pay3_apply (h : Holds x w c r G p0 p1 ws0 ws1) (k : Fin 32) :
    k0_pay3 G p1 (ix2 k r) = gram x k (point c 1) := by
  pointwise [k0_pay3]
  simp only [h.gram, h.snd, mul_ite, mul_one, mul_zero, Finset.sum_ite_eq', Finset.mem_univ, if_true]

theorem pay4_apply (h : Holds x w c r G p0 p1 ws0 ws1) (t : Fin 1) :
    k0_pay4 G p0 (ix2 t r) = gram x (point c 0) (point c 0) := by
  pointwise [k0_pay4]
  simp only [pay2_apply h, h.fst, mul_ite, mul_one, mul_zero, Finset.sum_ite_eq', Finset.mem_univ, if_true]

theorem pay5_apply (h : Holds x w c r G p0 p1 ws0 ws1) (t : Fin 1) :
    k0_pay5 G p0 p1 (ix2 t r) = gram x (point c 0) (point c 1) := by
  pointwise [k0_pay5]
  simp only [pay2_apply h, h.snd, mul_ite, mul_one, mul_zero, Finset.sum_ite_eq', Finset.mem_univ, if_true]
  exact gram_comm _ _ _

theorem pay6_apply (h : Holds x w c r G p0 p1 ws0 ws1) (t : Fin 1) :
    k0_pay6 G p1 (ix2 t r) = gram x (point c 1) (point c 1) := by
  pointwise [k0_pay6]
  simp only [pay3_apply h, h.snd, mul_ite, mul_one, mul_zero, Finset.sum_ite_eq', Finset.mem_univ, if_true]

theorem plane_apply (h : Holds x w c r G p0 p1 ws0 ws1) (l : Fin 129) (k : Fin 32) :
    plane ws0 ws1 (k0_pay2 G p0) (k0_pay3 G p1) p0 p1 k.val (ix2 l r)
      = if k = point c 0 ∨ k = point c 1 then ⊤ else proj x w c l k := by
  have hk : (⟨k.val % 32, Nat.mod_lt _ (by decide)⟩ : Fin 32) = k := Fin.ext (Nat.mod_eq_of_lt k.isLt)
  have hne : point c 0 ≠ point c 1 := fun e => second_ne c.val (congrArg Fin.val e).symm
  pointwise [plane]
  rw [hk, pay2_apply h, pay3_apply h, h.fst, h.snd, h.dir0, h.dir1, named_big]
  have hp : w l 0 * gram x k (point c 0) + w l 1 * gram x k (point c 1) = proj x w c l k := by
    unfold proj
    rw [Fin.sum_univ_two, gram_comm x k, gram_comm x k, mul_comm (w l 0), mul_comm (w l 1)]
    rfl
  rw [hp]
  by_cases h0 : k = point c 0
  · have h1 : k ≠ point c 1 := fun e => hne (h0.symm.trans e)
    rw [if_pos h0, if_neg h1, add_zero, if_pos half_lt_one, if_pos (Or.inl h0)]
  · by_cases h1 : k = point c 1
    · rw [if_neg h0, if_pos h1, zero_add, if_pos half_lt_one, if_pos (Or.inr h1)]
    · rw [if_neg h0, if_neg h1, add_zero, if_neg half_pos.not_gt, if_neg (not_or.2 ⟨h0, h1⟩)]

theorem accum_apply (wd : FVec Ideal S129x30 .f32) (L : List (FVec Ideal S129x128 .f32)) (n : ℕ) (l : Fin 129) :
    accum wd L n (ix2 l r) = ∑ k ∈ Finset.range (n + 1), wd (ix2 l ⟨k % 30, Nat.mod_lt _ (by decide)⟩) * pick blank L k (ix2 l r) := by
  have hw : ∀ k, weight wd k (ix2 l r) = wd (ix2 l ⟨k % 30, Nat.mod_lt _ (by decide)⟩) := fun k => by
    pointwise [weight]
  induction n with
  | zero =>
    rw [Finset.sum_range_one, mul_comm, ← hw]
    rfl
  | succ n ih =>
    rw [Finset.sum_range_succ, ← ih, mul_comm (wd _), ← hw]
    rfl

/-- The sorted planes begin with the projections of the points outside the pair in ascending order. -/
theorem sorted_apply (h : Holds x w c r G p0 p1 ws0 ws1) (l : Fin 129) (k : Fin 30) :
    pick blank (sortedPlanes (planes ws0 ws1 (k0_pay2 G p0) (k0_pay3 G p1) p0 p1)) k.val (ix2 l r)
      = asc (fun j => proj x w c l (other c j)) k := by
  have hcol : ∀ i : Fin 32, col (planes ws0 ws1 (k0_pay2 G p0) (k0_pay3 G p1) p0 p1) l r i
      = if i = point c 0 ∨ i = point c 1 then ⊤ else proj x w c l i := fun i => by
    rw [← plane_apply h l i]
    unfold col planes
    rw [pick_map_range _ _ _ _ i.isLt, ix2_eq_valueIdx]
  have := ascending_padded (m := 30) (n := 2 ^ 5) (by decide) (fun j => other c j)
    (fun a b e => Fin.ext (rest_injective (congrArg Fin.val e))) _ _ _
    (col (sortedPlanes (planes ws0 ws1 (k0_pay2 G p0) (k0_pay3 G p1) p0 p1)) l r)
    (fun j => (hcol (other c j)).trans (if_neg (not_or.2 ⟨
      fun e => (rest_ne (c := c.val) (j := j.val)).1 (congrArg Fin.val e), fun e => (rest_ne (c := c.val) (j := j.val)).2 (congrArg Fin.val e)⟩)))
    (fun i hi => (hcol i).trans (if_pos (by
      by_contra hn
      rw [not_or] at hn
      obtain ⟨j, hj, e⟩ := exists_rest c.isLt i.isLt (fun e => hn.1 (Fin.ext e)) (fun e => hn.2 (Fin.ext e))
      exact hi ⟨j, hj⟩ (Fin.ext e))))
    (asc_ascending _) ⟨col_sorted_monotone l r _, col_sorted_perm l r _⟩ ⟨k.val, by omega⟩
  rw [dif_pos k.isLt] at this
  exact (congrArg _ (ix2_eq_valueIdx _ _)).trans this

theorem chunk_apply (wd : FVec Ideal S129x30 .f32) (wf : FVec Ideal S129x133 .f32) (h : Holds x w c r G p0 p1 ws0 ws1) (l : Fin 129) :
    chunk G p0 p1 ws0 ws1 wd wf (ix2 l r)
      = score x w (fun l k => wd (ix2 l k)) (fun l e => wf (ix2 l e)) l c := by
  have hA : ∀ e : Fin 129, accum wd (sortedPlanes (planes ws0 ws1 (k0_pay2 G p0) (k0_pay3 G p1) p0 p1)) 29 (ix2 e r)
      = inner x w (fun l k => wd (ix2 l k)) c e := fun e => by
    rw [accum_apply, Finset.sum_range]
    refine Finset.sum_congr rfl fun k _ => ?_
    rw [sorted_apply h]
    exact congrArg (fun k' => wd (ix2 e k') * _) (Fin.ext (Nat.mod_eq_of_lt k.isLt))
  unfold chunk
  generalize accum wd _ 29 = A at hA ⊢
  pointwise
  refine (Fin.sum_univ_add (a := 4) (b := 129) _).trans ?_
  refine congrArg₂ (· + ·) ?_ (Finset.sum_congr rfl fun e _ => (mul_comm _ _).trans ?_)
  · rw [Fin.sum_univ_four, Fin.sum_univ_four]
    refine congrArg₂ (· + ·) (congrArg₂ (· + ·) (congrArg₂ (· + ·) ((mul_comm _ _).trans ?_) ((mul_comm _ _).trans ?_))
      ((mul_comm _ _).trans ?_)) ((mul_comm _ _).trans ?_)
    · rw [dif_pos (by decide), pay4_apply h]; rfl
    · rw [dif_neg (by decide), dif_pos (by decide), pay5_apply h]; rfl
    · rw [dif_neg (by decide), dif_neg (by decide), dif_pos (by decide), pay5_apply h, gram_comm]; rfl
    · rw [dif_neg (by decide), dif_neg (by decide), dif_neg (by decide), dif_pos (by decide), pay6_apply h]; rfl
  · have he : (Fin.natAdd 4 e).val = 4 + e.val := rfl
    rw [dif_neg (by omega), dif_neg (by omega), dif_neg (by omega), dif_neg (by omega), ← hA]
    refine congrArg₂ (· * ·) (congrArg (fun e => A (ix2 e r)) (Fin.ext ?_)) rfl
    show 4 + e.val - 1 - 1 - 1 - 1 = e.val
    omega

end Cert.KernelIdeal.Mirror
-- ==== Proof.Total.lean ====
module

public import proofs.«01_k».proof.Proof.Bitonic
public import proofs.«01_k».proof.Proof.Chunk

/-! # From the eight planes of scores to the result

The eight planes hold the scores of the 992 pairs and, past them, the largest number. The network sorts them all, the
weights past the pairs are zero, and so the weighted sum is the problem's result. -/

@[expose] public section

set_option maxRecDepth 16384

noncomputable section

namespace Cert.KernelIdeal.Mirror

open Cert.KernelIdeal Cert.KernelIdeal.Gen Idealize.ShloMosaic Cert.Pairs Cert.Spec Cert.Sorting

local notation "RP" => FVec Idealize.ShloMosaic.Ideal S129x128 FTy.f32

theorem masked_apply (x : RP) (l : Fin 129) (r : Fin 128) :
    masked x (ix2 l r) = if r.val < 96 then x (ix2 l r) else ⊤ := by
  have e : ∀ r < 128, IntOp.cmpi .sge (BitVec.ofNat 32 r) 96#32 = if r < 96 then 0#1 else 1#1 := by decide
  show Scalar.select (rows (cmpi .sge lanes (broadcast S1x128 96#32)) (ix2 l r)) _ _ = _
  rw [ix2_eq_valueIdx, rows_apply]
  show Scalar.select (IntOp.cmpi .sge (lanes _) 96#32) _ _ = _
  rw [lanes_apply, e r.val r.isLt]
  by_cases h : r.val < 96
  · rw [if_pos h, if_pos h]; rfl
  · rw [if_neg h, if_neg h]; rfl

/-- The column of the tables that the network's entry `n` belongs to. -/
def column (n : ℕ) : ℕ := n % 8 * 128 + n / 8

/-- The network's entry that holds pair `c`. -/
def place (c : Fin 992) : Fin (2 ^ 10) := ⟨c.val % 128 * 8 + c.val / 128, by have := c.isLt; norm_num; omega⟩

theorem column_place (c : Fin 992) : column (place c).val = c.val := by
  have := c.isLt
  show (c.val % 128 * 8 + c.val / 128) % 8 * 128 + (c.val % 128 * 8 + c.val / 128) / 8 = c.val
  omega

theorem column_lt (n : Fin (2 ^ 10)) : column n.val < 1024 := by
  have : n.val < 1024 := n.isLt
  unfold column
  omega

theorem place_injective : Function.Injective place := fun a b e => Fin.ext (by
  rw [← column_place a, ← column_place b, e])

theorem place_column (n : Fin (2 ^ 10)) (h : column n.val < 992) : place ⟨column n.val, h⟩ = n := by
  have : n.val < 1024 := n.isLt
  refine Fin.ext ?_
  show column n.val % 128 * 8 + column n.val / 128 = n.val
  unfold column
  omega

/-- The planes hold the scores `s`: at lane `r` of plane `q`, that of the pair `q * 128 + r`. -/
abbrev Scored (s : Fin 129 → Fin 992 → EReal) (C : ℕ → RP) : Prop :=
  ∀ q < 8, ∀ (l : Fin 129) (r : Fin 128) (h : q * 128 + r.val < 992), C q (ix2 l r) = s l ⟨q * 128 + r.val, h⟩

variable {s : Fin 129 → Fin 992 → EReal} {C : ℕ → RP}

theorem pick_scores (q : ℕ) (hq : q < 8) : pick blank (scores (C 0, C 1, C 2, C 3, C 4, C 5, C 6, C 7)) q
    = if q = 7 then masked (C 7) else C q := by
  match q, hq with
  | 0, _ => rfl
  | 1, _ => rfl
  | 2, _ => rfl
  | 3, _ => rfl
  | 4, _ => rfl
  | 5, _ => rfl
  | 6, _ => rfl
  | 7, _ => rfl

theorem vec_scores (h : Scored s C) (l : Fin 129) (n : Fin (2 ^ 10)) :
    vec (scores (C 0, C 1, C 2, C 3, C 4, C 5, C 6, C 7)) l n
      = if hc : column n.val < 992 then s l ⟨column n.val, hc⟩ else ⊤ := by
  have hn : n.val < 1024 := n.isLt
  rw [vec_of _ l n (n.val % 8) ⟨n.val / 8, by omega⟩ rfl rfl, ← ix2_eq_valueIdx, pick_scores _ (Nat.mod_lt _ (by decide))]
  by_cases h7 : n.val % 8 = 7
  · rw [if_pos h7, masked_apply]
    by_cases h96 : n.val / 8 < 96
    · rw [if_pos h96, dif_pos (show column n.val < 992 by unfold column; omega)]
      refine (h 7 (by decide) l ⟨n.val / 8, by omega⟩ (by show 7 * 128 + n.val / 8 < 992; omega)).trans ?_
      exact congrArg (s l) (Fin.ext (by show 7 * 128 + n.val / 8 = column n.val; unfold column; omega))
    · rw [if_neg h96, dif_neg (show ¬ column n.val < 992 by unfold column; omega)]
  · rw [if_neg h7, dif_pos (show column n.val < 992 by unfold column; omega)]
    exact h (n.val % 8) (Nat.mod_lt _ (by decide)) l ⟨n.val / 8, by omega⟩
      (by show n.val % 8 * 128 + n.val / 8 < 992; omega)

/-- The network's entries after the sort: the scores in ascending order, then the largest number. -/
theorem vec_sorted_scores (h : Scored s C) (l : Fin 129) (n : Fin (2 ^ 10)) :
    vec (sortedScores (scores (C 0, C 1, C 2, C 3, C 4, C 5, C 6, C 7))) l n
      = if hn : n.val < 992 then asc (s l) ⟨n.val, hn⟩ else ⊤ :=
  ascending_padded (m := 992) (n := 2 ^ 10) (by decide) place place_injective (s l) (asc (s l)) _ _
    (fun c => by
      have hc := column_place c
      rw [vec_scores h, dif_pos (by rw [hc]; exact c.isLt)]
      exact congrArg (s l) (Fin.ext hc))
    (fun n hn => by
      rw [vec_scores h, dif_neg fun hc => hn _ (place_column n hc)])
    (asc_ascending _) ⟨vec_sorted_monotone l _, vec_sorted_perm l _⟩ n

/-- The weights `w` hold the final weights `z` in the network's order, and zero past them. -/
abbrev Weighs (z : Fin 129 → Fin 992 → EReal) (w : ℕ → FVec Ideal S1x129x128 .f32) : Prop :=
  ∀ q < 8, ∀ (l : Fin 129) (r : Fin 128),
    w q (ix3 0 l r) = if h : r.val * 8 + q < 992 then z l ⟨r.val * 8 + q, h⟩ else 0

theorem weighted_apply (L : List RP) (q : ℕ) (w : FVec Ideal S1x129x128 .f32) (l : Fin 129) (r : Fin 128) :
    weighted L q w (ix2 l r) = pick blank L q (ix2 l r) * w (ix3 0 l r) := by
  refine congrArg (pick blank L q (ix2 l r) * ·) ?_
  pointwise

theorem total_apply (L : List RP) (w : ℕ → FVec Ideal S1x129x128 .f32) (l : Fin 129) (r : Fin 128) :
    total L (w 0) (w 1) (w 2) (w 3) (w 4) (w 5) (w 6) (w 7) (ix2 l r)
      = ∑ q : Fin 8, pick blank L q.val (ix2 l r) * w q.val (ix3 0 l r) := by
  rw [Fin.sum_univ_eight]
  simp only [← weighted_apply]
  rfl

/-- A sum over lanes and planes is a sum over the network's entries. -/
theorem sum_lanes (f : Fin 1024 → EReal) :
    ∑ r : Fin 128, ∑ q : Fin 8, f ⟨r.val * 8 + q.val, by omega⟩ = ∑ n, f n := by
  rw [← Fintype.sum_prod_type', ← (finProdFinEquiv (m := 128) (n := 8)).sum_comp]
  refine Finset.sum_congr rfl fun p _ => congrArg f (Fin.ext ?_)
  show p.1.val * 8 + p.2.val = p.2.val + 8 * p.1.val
  omega

/-- The weighted entry `n` of the sorted scores. -/
def entry (z s : Fin 129 → Fin 992 → EReal) (l : Fin 129) (n : Fin 1024) : EReal :=
  if hn : n.val < 992 then z l ⟨n.val, hn⟩ * asc (s l) ⟨n.val, hn⟩ else 0

theorem pay1_apply (v : RP) (l : Fin 129) (t : Fin 1) : k0_pay1 v (ix2 l t) = ∑ r, v (ix2 l r) := by
  pointwise [k0_pay1]

theorem total_result {z : Fin 129 → Fin 992 → EReal} {w : ℕ → FVec Ideal S1x129x128 .f32} (h : Scored s C) (hw : Weighs z w)
    (l : Fin 129) (t : Fin 1) :
    k0_pay1 (total (sortedScores (scores (C 0, C 1, C 2, C 3, C 4, C 5, C 6, C 7)))
      (w 0) (w 1) (w 2) (w 3) (w 4) (w 5) (w 6) (w 7)) (ix2 l t) = ∑ c, z l c * asc (s l) c := by
  have e : ∀ (r : Fin 128) (q : Fin 8), pick blank (sortedScores (scores (C 0, C 1, C 2, C 3, C 4, C 5, C 6, C 7))) q.val (ix2 l r)
      * w q.val (ix3 0 l r) = entry z s l ⟨r.val * 8 + q.val, by omega⟩ := fun r q => by
    have hv := vec_of (sortedScores (scores (C 0, C 1, C 2, C 3, C 4, C 5, C 6, C 7))) l ⟨r.val * 8 + q.val, by norm_num; omega⟩
      q.val r (by show (r.val * 8 + q.val) % 8 = q.val; omega) (by show (r.val * 8 + q.val) / 8 = r.val; omega)
    rw [← ix2_eq_valueIdx] at hv
    rw [← hv, hw q.val q.isLt, vec_sorted_scores h]
    show (if hn : r.val * 8 + q.val < 992 then _ else _) * _ = if hn : r.val * 8 + q.val < 992 then _ else _
    by_cases hn : r.val * 8 + q.val < 992
    · rw [dif_pos hn, dif_pos hn, dif_pos hn, mul_comm]
    · rw [dif_neg hn, dif_neg hn, dif_neg hn, mul_zero]
  refine (pay1_apply _ l t).trans ((Finset.sum_congr rfl fun r _ => (total_apply _ w l r).trans (Finset.sum_congr rfl fun q _ => e r q)).trans ?_)
  refine (sum_lanes (entry z s l)).trans ((Fin.sum_univ_add (a := 992) (b := 32) _).trans ?_)
  have z2 : ∀ i : Fin 32, entry z s l (Fin.natAdd 992 i) = 0 := fun i =>
    dif_neg (by show ¬ 992 + i.val < 992; omega)
  rw [Finset.sum_eq_zero (fun i _ => z2 i), add_zero]
  exact Finset.sum_congr rfl fun c _ => dif_pos c.isLt

end Cert.KernelIdeal.Mirror
-- ==== Proof.Stored.lean ====
module

public import proofs.«01_k».proof.Proof.Gen.KernelIdeal.Frame
public import proofs.«01_k».proof.Proof.Run
public import proofs.«01_k».proof.Proof.Loop
public import proofs.«01_k».proof.Proof.Total
public import Idealize.ShloMosaic.Lib.WholeRead
public import Idealize.ShloMosaic.Lib.WritesUnit
public import Idealize.ShloMosaic.Lib.Pointwise

/-! # What the kernel stores

From inputs that hold the two tables and the rearranged weights, the kernel stores the problem's result. -/

@[expose] public section

set_option maxRecDepth 65536
set_option maxHeartbeats 1000000

noncomputable section

namespace Cert.KernelIdeal.Mirror

open Cert.KernelIdeal Cert.KernelIdeal.Gen Idealize.ShloMosaic Idealize.ShloMosaic.TcCoe Cert.Pairs Cert.Spec

/-- A load of the whole array is the array. -/
theorem load_all {s : Shape} (hs : ∀ a, 0 < s.size a) (a0 : Memref sig .tc .vmem s .f32) (h0 : a0.IsWhole) (x : Vec Ideal s .f32) (off : Fin s.rank → ℕ)
    (ho : ∀ a, off a = 0) (inb : ∀ a, off a + s.size a ≤ s.size a) :
    View.readAt (Elt Ideal) a0.view (Rect.unit (s := s) off s.size inb).toLoadRect (h0.unread x) = x := by
  funext i
  rw [h0.readAt_unread]
  refine congrArg x (funext fun a => Fin.ext ?_)
  show off a + 1 * (i a).val = (i a).val
  rw [ho, Nat.one_mul, Nat.zero_add]

/-- Slab `q` of the rearranged weights. -/
def slab (x : Vec Ideal S8x129x128 .f32) (q : ℕ) : FVec Ideal S1x129x128 .f32 :=
  fun i => x (ix3 ⟨q % 8, Nat.mod_lt _ (by decide)⟩ (i 1) (i 2))

theorem load_slab (a0 : Memref sig .tc .vmem S8x129x128 .f32) (h0 : a0.IsWhole) (x : Vec Ideal S8x129x128 .f32) (q : ℕ) (hq : q < 8)
    (inb : ∀ a, (![q, 0, 0] : Fin 3 → ℕ) a + S1x129x128.size a ≤ S8x129x128.size a) :
    View.readAt (Elt Ideal) a0.view (Rect.unit (s := S8x129x128) ![q, 0, 0] S1x129x128.size inb).toLoadRect (h0.unread x) = slab x q := by
  funext i
  rw [h0.readAt_unread]
  refine congrArg x (funext fun a => Fin.ext ?_)
  match a with
  | ⟨0, _⟩ =>
    have h : (i 0).val < 1 := (i 0).isLt
    show q + 1 * (i 0).val = q % 8
    omega
  | ⟨1, _⟩ => show 0 + 1 * (i 1).val = (i 1).val; omega
  | ⟨2, _⟩ => show 0 + 1 * (i 2).val = (i 2).val; omega

theorem load_column (a0 : Memref sig .tc .vmem S129x2 .f32) (h0 : a0.IsWhole) (x : Vec Ideal S129x2 .f32) (j : Fin 2)
    (inb : ∀ a, (![0, j.val] : Fin 2 → ℕ) a + S129x1.size a ≤ S129x2.size a) (l : Fin 129) :
    View.readAt (Elt Ideal) a0.view (Rect.unit (s := S129x2) ![0, j.val] S129x1.size inb).toLoadRect (h0.unread x) (ix2 l 0) = x (ix2 l j) := by
  rw [h0.readAt_unread]
  refine congrArg x (funext fun a => Fin.ext ?_)
  match a with
  | ⟨0, _⟩ => show 0 + 1 * l.val = l.val; omega
  | ⟨1, _⟩ => show j.val + 1 * 0 = j.val; omega

theorem load_chunk (a0 : Memref sig .tc .vmem S32x1024 .f32) (h0 : a0.IsWhole) (x : Vec Ideal S32x1024 .f32) (k : Fin k0_t1_loop.trips)
    (a : Fin 32) (r : Fin 128) (hr : k.val * 128 + r.val < 1024) :
    trip_k0_t1.sl.r a0 (h0.unread x) k (ix2 a r) = x (ix2 a ⟨k.val * 128 + r.val, hr⟩) := by
  unfold trip_k0_t1.sl.r
  rw [h0.readAt_unread]
  have e := k0_off1_eq k
  refine congrArg x (funext fun b => Fin.ext ?_)
  match b with
  | ⟨0, _⟩ =>
    show k0_off1 k 0 + 1 * a.val = a.val
    rw [e]; show 0 + 1 * a.val = a.val; omega
  | ⟨1, _⟩ =>
    show k0_off1 k 1 + 1 * r.val = k.val * 128 + r.val
    rw [e]; show 128 * k.val + 1 * r.val = _; omega

theorem gram_apply (x0 : Vec Ideal S32x2 .f32) (x1 : Vec Ideal S2x32 .f32) (h : ∀ a i, x0 (ix2 a i) = x1 (ix2 i a)) (a b : Fin 32) :
    k0_pay451 x0 x1 (ix2 a b) = gram (fun i j => x1 (ix2 i j)) a b := by
  pointwise [k0_pay451]
  unfold gram
  simp only [h]

variable {x0 : Vec Ideal S32x2 .f32} {x1 : Vec Ideal S2x32 .f32} {x2 : Vec Ideal S129x2 .f32} {x3 : Vec Ideal S129x30 .f32}
  {x4 : Vec Ideal S129x133 .f32} {x5 x6 : Vec Ideal S32x1024 .f32} {x7 : Vec Ideal S8x129x128 .f32} {z : Fin 129 → Fin 992 → EReal}

/-- The inputs as the operations before the kernel leave them: the points turned over, the two tables, the rearranged weights. -/
structure Given (x0 : Vec Ideal S32x2 .f32) (x1 : Vec Ideal S2x32 .f32) (x5 x6 : Vec Ideal S32x1024 .f32) (x7 : Vec Ideal S8x129x128 .f32)
    (z : Fin 129 → Fin 992 → EReal) : Prop where
  turned : ∀ a i, x0 (ix2 a i) = x1 (ix2 i a)
  fst : ∀ k n, x5 (ix2 k n) = if n.val < 992 ∧ first n.val = k.val then (1 : EReal) else 0
  snd : ∀ k n, x6 (ix2 k n) = if n.val < 992 ∧ second n.val = k.val then (1 : EReal) else 0
  weights : ∀ q l r, x7 (ix3 q l r) = if h : r.val * 8 + q.val < 992 then z l ⟨r.val * 8 + q.val, h⟩ else 0

theorem weighs (h : Given x0 x1 x5 x6 x7 z) : Weighs z (slab x7) := fun q hq l r => by
  refine (h.weights ⟨q % 8, Nat.mod_lt _ (by decide)⟩ l r).trans ?_
  simp only [Nat.mod_eq_of_lt hq]

/-- What the loop computes at trip `k`. -/
def trip (arg5 : Memref sig .tc .vmem S32x1024 .f32) (harg5 : arg5.IsWhole) (arg6 : Memref sig .tc .vmem S32x1024 .f32) (harg6 : arg6.IsWhole)
    (G : FVec Ideal S32x32 .f32) (u0 u1 : FVec Ideal S129x1 .f32) (x3 : Vec Ideal S129x30 .f32) (x4 : Vec Ideal S129x133 .f32)
    (x5 x6 : Vec Ideal S32x1024 .f32) (k : ℕ) : FVec Ideal S129x128 .f32 :=
  if h : k < k0_t1_loop.trips then
    chunk G (trip_k0_t1.sl.r arg5 (harg5.unread x5) ⟨k, h⟩) (trip_k0_t1.sl.r arg6 (harg6.unread x6) ⟨k, h⟩) u0 u1 x3 x4
  else k0_pay452

theorem scored (arg5 : Memref sig .tc .vmem S32x1024 .f32) (harg5 : arg5.IsWhole) (arg6 : Memref sig .tc .vmem S32x1024 .f32) (harg6 : arg6.IsWhole)
    (h : Given x0 x1 x5 x6 x7 z) {u0 u1 : FVec Ideal S129x1 .f32} (h0 : ∀ l, u0 (ix2 l 0) = x2 (ix2 l 0)) (h1 : ∀ l, u1 (ix2 l 0) = x2 (ix2 l 1)) :
    Scored (score (fun i j => x1 (ix2 i j)) (fun l i => x2 (ix2 l i)) (fun l k => x3 (ix2 l k)) (fun l e => x4 (ix2 l e)))
      (trip arg5 harg5 arg6 harg6 (k0_pay451 x0 x1) u0 u1 x3 x4 x5 x6) := fun q hq l r hr => by
  have ht : q < k0_t1_loop.trips := trips_eq ▸ hq
  have hlt : q * 128 + r.val < 1024 := by omega
  rw [trip, dif_pos ht]
  refine chunk_apply (x := fun i j => x1 (ix2 i j)) (w := fun l i => x2 (ix2 l i)) (c := ⟨q * 128 + r.val, hr⟩) x3 x4
    ⟨gram_apply x0 x1 h.turned, fun k => ?_, fun k => ?_, h0, h1⟩ l
  · rw [load_chunk arg5 harg5 x5 ⟨q, ht⟩ k r hlt, h.fst]
    refine if_congr ⟨fun e => Fin.ext e.2.symm, fun e => ⟨hr, (congrArg Fin.val e).symm⟩⟩ rfl rfl
  · rw [load_chunk arg6 harg6 x6 ⟨q, ht⟩ k r hlt, h.snd]
    refine if_congr ⟨fun e => Fin.ext e.2.symm, fun e => ⟨hr, (congrArg Fin.val e).symm⟩⟩ rfl rfl

theorem eight_seen {F : FTy → Type} [FloatOps F] [Named F] (P : ℕ → FVec F S129x128 .f32) :
    eight (seen P) 8 = (P 0, P 1, P 2, P 3, P 4, P 5, P 6, P 7) := rfl

theorem stored (c : Dev nD)
    (arg0 : Memref sig .tc .vmem S32x2 .f32) (harg0 : arg0.IsWhole) (arg1 : Memref sig .tc .vmem S2x32 .f32) (harg1 : arg1.IsWhole) (arg2 : Memref sig .tc .vmem S129x2 .f32) (harg2 : arg2.IsWhole) (arg3 : Memref sig .tc .vmem S129x30 .f32) (harg3 : arg3.IsWhole)
    (arg4 : Memref sig .tc .vmem S129x133 .f32) (harg4 : arg4.IsWhole) (arg5 : Memref sig .tc .vmem S32x1024 .f32) (harg5 : arg5.IsWhole) (arg6 : Memref sig .tc .vmem S32x1024 .f32) (harg6 : arg6.IsWhole)
    (arg7 : Memref sig .tc .vmem S8x129x128 .f32) (harg7 : arg7.IsWhole) (arg8 : Memref sig .tc .vmem S129x1 .f32) (harg8 : arg8.IsWhole)
    (h : Given x0 x1 x5 x6 x7 z) (l : Fin 129) (t : Fin 1) :
    out0_A_8 (F := Ideal) c arg0 harg0 arg1 harg1 arg2 harg2 arg3 harg3 arg4 harg4 arg5 harg5 arg6 harg6 arg7 harg7 arg8 harg8 x0 x1 x2 x3 x4 x5 x6 x7 (ix2 l t)
      = result (fun i j => x1 (ix2 i j)) (fun l i => x2 (ix2 l i)) (fun l k => x3 (ix2 l k)) (fun l e => x4 (ix2 l e)) z l := by
  unfold out0_A_8
  rw [run_eq, View.read_writes_cons_unit_of_mem VO0_8 _ inb_S129x1_S129x1_0_0 _ [] (ix2 l t) (ix2 l t) rfl (fun a => by
    match a with
    | ⟨0, _⟩ => exact (Nat.zero_add _).symm
    | ⟨1, _⟩ => exact (Nat.zero_add _).symm)]
  rw [load_all (by decide) arg0 harg0 x0 ![0, 0] (by decide), load_all (by decide) arg1 harg1 x1 ![0, 0] (by decide),
    load_all (by decide) arg3 harg3 x3 ![0, 0] (by decide), load_all (by decide) arg4 harg4 x4 ![0, 0] (by decide),
    load_slab arg7 harg7 x7 0 (by decide), load_slab arg7 harg7 x7 1 (by decide), load_slab arg7 harg7 x7 2 (by decide),
    load_slab arg7 harg7 x7 3 (by decide), load_slab arg7 harg7 x7 4 (by decide), load_slab arg7 harg7 x7 5 (by decide),
    load_slab arg7 harg7 x7 6 (by decide), load_slab arg7 harg7 x7 7 (by decide)]
  have h0 : ∀ l, View.readAt (Elt Ideal) arg2.view (Rect.unit (s := S129x2) ![0, 0] S129x1.size inb_S129x2_S129x1_0_0).toLoadRect (harg2.unread x2) (ix2 l 0)
      = x2 (ix2 l 0) := load_column arg2 harg2 x2 0 inb_S129x2_S129x1_0_0
  have h1 : ∀ l, View.readAt (Elt Ideal) arg2.view (Rect.unit (s := S129x2) ![0, 1] S129x1.size inb_S129x2_S129x1_0_1).toLoadRect (harg2.unread x2) (ix2 l 0)
      = x2 (ix2 l 1) := load_column arg2 harg2 x2 1 inb_S129x2_S129x1_0_1
  generalize View.readAt (Elt Ideal) arg2.view (Rect.unit (s := S129x2) ![0, 0] S129x1.size inb_S129x2_S129x1_0_0).toLoadRect (harg2.unread x2) = u0 at h0 ⊢
  generalize View.readAt (Elt Ideal) arg2.view (Rect.unit (s := S129x2) ![0, 1] S129x1.size inb_S129x2_S129x1_0_1).toLoadRect (harg2.unread x2) = u1 at h1 ⊢
  refine Eq.trans ?_ (total_result (scored (x2 := x2) (x3 := x3) (x4 := x4) arg5 harg5 arg6 harg6 h h0 h1) (weighs h) l t)
  refine congrArg (fun T => k0_pay1 (total (sortedScores (scores T)) (slab x7 0) (slab x7 1) (slab x7 2) (slab x7 3) (slab x7 4) (slab x7 5)
    (slab x7 6) (slab x7 7)) (ix2 l t)) ?_
  refine Eq.trans (loop_eq (F := Ideal) Variants.none c none arg0 harg0 arg1 harg1 arg2 harg2 arg3 harg3 arg4 harg4 arg5 harg5 arg6 harg6 arg7 harg7 arg8 harg8
    x0 x1 u0 u1 x3 x4 (harg5.unread x5) (harg6.unread x6) (trip arg5 harg5 arg6 harg6 (k0_pay451 x0 x1) u0 u1 x3 x4 x5 x6) (fun k => dif_pos k.isLt)
    k0_t1_loop.trips le_rfl) ?_
  rw [trips_eq]
  exact eight_seen _

end Cert.KernelIdeal.Mirror
-- ==== Proof.TableRest.lean ====
module

public import proofs.«01_k».proof.Proof.Gen.ReferenceIdeal.Run
public import proofs.«01_k».proof.Proof.Pairs

/-! # The reference's tables of points -/

@[expose] public section

set_option maxRecDepth 65536

namespace Cert.Pairs

/-- The reference's table of pairs. -/
theorem table_pair : ∀ c < 992, ∀ k < 2, Cert.ReferenceIdeal.lit0t (c * 2 + k)
    = BitVec.ofNat 32 (if k = 0 then first c else second c) := by
  decide +kernel

/-- The reference's table of the points outside a pair, for the pairs from `124 * q` on. -/
abbrev RowsRest (q : ℕ) : Prop := ∀ c < 124, ∀ j < 30, Cert.ReferenceIdeal.lit1t ((q * 124 + c) * 30 + j)
  = BitVec.ofNat 32 (rest (q * 124 + c) j)

theorem rowsRest0 : RowsRest 0 := by decide +kernel
theorem rowsRest1 : RowsRest 1 := by decide +kernel
theorem rowsRest2 : RowsRest 2 := by decide +kernel
theorem rowsRest3 : RowsRest 3 := by decide +kernel
theorem rowsRest4 : RowsRest 4 := by decide +kernel
theorem rowsRest5 : RowsRest 5 := by decide +kernel
theorem rowsRest6 : RowsRest 6 := by decide +kernel
theorem rowsRest7 : RowsRest 7 := by decide +kernel

/-- The reference's table of the points outside a pair. -/
theorem table_rest (c : ℕ) (hc : c < 992) (j : ℕ) (hj : j < 30) :
    Cert.ReferenceIdeal.lit1t (c * 30 + j) = BitVec.ofNat 32 (rest c j) := by
  have h : ∀ q < 8, RowsRest q := by
    intro q hq
    match q, hq with
    | 0, _ => exact rowsRest0
    | 1, _ => exact rowsRest1
    | 2, _ => exact rowsRest2
    | 3, _ => exact rowsRest3
    | 4, _ => exact rowsRest4
    | 5, _ => exact rowsRest5
    | 6, _ => exact rowsRest6
    | 7, _ => exact rowsRest7
  have e := h (c / 124) (by omega) (c % 124) (by omega) j hj
  rwa [show c / 124 * 124 + c % 124 = c by omega] at e

end Cert.Pairs
-- ==== Proof.Gathered.lean ====
module

public import proofs.«01_k».proof.Proof.Gen.ReferenceIdeal.Run
public import proofs.«01_k».proof.Proof.Spec
public import proofs.«01_k».proof.Proof.TableRest
public import Idealize.ShloMosaic.Lib.Pointwise

/-! # The points the reference picks

The reference takes columns of its first argument by two tables. Every entry of the tables is a column, so the wrapping of
negative entries and the test for entries out of range change nothing. -/

@[expose] public section

set_option maxRecDepth 16384

noncomputable section

namespace Cert.ReferenceIdeal.Stages

open Cert.ReferenceIdeal Cert.ReferenceIdeal.Gen Idealize.ShloMosaic Cert.Pairs Cert.Spec

/-- A table with its negative entries wrapped. -/
def wrapPair : IVec S992x2 32 :=
  select (cmpi .slt ((fun i => lit0 (S992x2.rowMajor i))) (broadcastInDim S992x2 ![] bcast_S_S992x2 (constantI S_ 32 0#32))) (addi ((fun i => lit0 (S992x2.rowMajor i))) (broadcastInDim S992x2 ![] bcast_S_S992x2 (constantI S_ 32 32#32))) ((fun i => lit0 (S992x2.rowMajor i)))

/-- The other table with its negative entries wrapped. -/
def wrapRest : IVec S992x30 32 :=
  select (cmpi .slt ((fun i => lit1 (S992x30.rowMajor i))) (broadcastInDim S992x30 ![] bcast_S_S992x30 (constantI S_ 32 0#32))) (addi ((fun i => lit1 (S992x30.rowMajor i))) (broadcastInDim S992x30 ![] bcast_S_S992x30 (constantI S_ 32 32#32))) ((fun i => lit1 (S992x30.rowMajor i)))

/-- The points of the pairs. -/
def takePair (x : FVec Ideal S2x32 .f32) : FVec Ideal S992x2x2 .f32 :=
  select (broadcastInDim S992x2x2 ![0, 2] bcast_S992x2_S992x2x2_0_2 (Host.reduce IntOp.andi (andi (cmpi .sge (broadcastInDim S992x2x1 ![0, 1] bcast_S992x2_S992x2x1_0_1 wrapPair) (broadcastInDim S992x2x1 ![] bcast_S_S992x2x1 (constantI S_ 32 0#32))) (cmpi .sle (broadcastInDim S992x2x1 ![0, 1] bcast_S992x2_S992x2x1_0_1 wrapPair) (broadcastInDim S992x2x1 ![0, 1, 2] bcast_S1x1x1_S992x2x1_0_1_2 (broadcastInDim S1x1x1 ![2] bcast_S1_S1x1x1_2 (constantI S1 32 31#32))))) (constantI S_ 1 1#1) reducesTo_S992x2x1_S992x2_d2 h_S_)) (Host.gather gather_S2x32_S992x2x1_S992x2x2_1_1_n_n_1_2_21 x (broadcastInDim S992x2x1 ![0, 1] bcast_S992x2_S992x2x1_0_1 wrapPair)) (broadcastInDim S992x2x2 ![] bcast_S_S992x2x2 (constant S_ .f32 0x7FC00000#32))

/-- The points outside the pairs. -/
def takeRest (x : FVec Ideal S2x32 .f32) : FVec Ideal S992x2x30 .f32 :=
  select (broadcastInDim S992x2x30 ![0, 2] bcast_S992x30_S992x2x30_0_2 (Host.reduce IntOp.andi (andi (cmpi .sge (broadcastInDim S992x30x1 ![0, 1] bcast_S992x30_S992x30x1_0_1 wrapRest) (broadcastInDim S992x30x1 ![] bcast_S_S992x30x1 (constantI S_ 32 0#32))) (cmpi .sle (broadcastInDim S992x30x1 ![0, 1] bcast_S992x30_S992x30x1_0_1 wrapRest) (broadcastInDim S992x30x1 ![0, 1, 2] bcast_S1x1x1_S992x30x1_0_1_2 (broadcastInDim S1x1x1 ![2] bcast_S1_S1x1x1_2 (constantI S1 32 31#32))))) (constantI S_ 1 1#1) reducesTo_S992x30x1_S992x30_d2 h_S_)) (Host.gather gather_S2x32_S992x30x1_S992x2x30_1_1_n_n_1_2_21 x (broadcastInDim S992x30x1 ![0, 1] bcast_S992x30_S992x30x1_0_1 wrapRest)) (broadcastInDim S992x2x30 ![] bcast_S_S992x2x30 (constant S_ .f32 0x7FC00000#32))

/-- Wrapping keeps a column's number. -/
theorem wrap_small : ∀ n < 32, Scalar.select (IntOp.cmpi .slt (BitVec.ofNat 32 n) 0#32) (IntOp.addi (BitVec.ofNat 32 n) 32#32)
    (BitVec.ofNat 32 n) = BitVec.ofNat 32 n := by decide

/-- A column's number passes the test for entries out of range. -/
theorem inside_small : ∀ n < 32, IntOp.andi (IntOp.cmpi .sge (BitVec.ofNat 32 n) 0#32)
    (IntOp.cmpi .sle (BitVec.ofNat 32 n) 31#32) = 1#1 := by decide

theorem clamp_small : ∀ n < 32, min (BitVec.ofNat 32 n).toInt.toNat 31 = n := by decide

/-- The conjunction of ones is one. -/
theorem reduce_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  generalize (List.filter _ _) = L
  induction L with
  | nil => rfl
  | cons a L ih => rw [List.foldl_cons, hx]; exact ih

theorem wrapPair_apply (c : Fin 992) (k : Fin 2) : wrapPair (ix2 c k) = BitVec.ofNat 32 (point c k).val := by
  have e : lit0 (S992x2.rowMajor (ix2 c k)) = BitVec.ofNat 32 (point c k).val := by
    have : (S992x2.rowMajor (ix2 c k)).val = c.val * 2 + k.val := by
      exact Shape.rowMajor_val_two _
    have e2 := table_pair c.val c.isLt k.val k.isLt
    rw [← this] at e2
    exact e2
  show Scalar.select (IntOp.cmpi .slt (lit0 (S992x2.rowMajor (ix2 c k))) 0#32)
    (IntOp.addi (lit0 (S992x2.rowMajor (ix2 c k))) 32#32) (lit0 (S992x2.rowMajor (ix2 c k))) = _
  rw [e]
  exact wrap_small _ (point c k).isLt

theorem wrapRest_apply (c : Fin 992) (j : Fin 30) : wrapRest (ix2 c j) = BitVec.ofNat 32 (other c j).val := by
  have e : lit1 (S992x30.rowMajor (ix2 c j)) = BitVec.ofNat 32 (other c j).val := by
    have : (S992x30.rowMajor (ix2 c j)).val = c.val * 30 + j.val := by
      exact Shape.rowMajor_val_two _
    have e2 := table_rest c.val c.isLt j.val j.isLt
    rw [← this] at e2
    exact e2
  show Scalar.select (IntOp.cmpi .slt (lit1 (S992x30.rowMajor (ix2 c j))) 0#32)
    (IntOp.addi (lit1 (S992x30.rowMajor (ix2 c j))) 32#32) (lit1 (S992x30.rowMajor (ix2 c j))) = _
  rw [e]
  exact wrap_small _ (other c j).isLt

/-- A gather of columns by a table of column numbers. -/
theorem gatherPair_apply (x : FVec Ideal S2x32 .f32) (idx : IVec S992x2x1 32) (c : Fin 992) (a k : Fin 2) :
    Host.gather gather_S2x32_S992x2x1_S992x2x2_1_1_n_n_1_2_21 x idx (ix3 c a k)
      = x (ix2 a ⟨min (idx (ix3 c k 0)).toInt.toNat 31, by omega⟩) := by
  unfold Host.gather
  congr 1
  funext b
  refine Fin.ext ?_
  show GatherDims.start _ _ idx b + GatherDims.batchCoord _ _ b + GatherDims.offCoord _ _ b = _
  rw [GatherDims.batchCoord_eq_zero _ _ _ List.not_mem_nil]
  match b with
  | ⟨0, _⟩ =>
    unfold GatherDims.start GatherDims.offCoord
    rw [dif_neg (show ¬ (⟨0, by decide⟩ : Fin 2) ∈ gather_S2x32_S992x2x1_S992x2x2_1_1_n_n_1_2_21.startIndexMap from
        fun h => absurd (List.mem_singleton.mp h) (by decide)),
      dif_pos ((GatherDims.mem_sKept _ _).mpr ⟨fun h => absurd (congrArg Fin.val (List.mem_singleton.mp h)) Nat.zero_ne_one, List.not_mem_nil⟩)]
    rw [Nat.zero_add]
    rfl
  | ⟨1, _⟩ =>
    rw [GatherDims.offCoord_eq_zero _ _ _ (fun h => ((GatherDims.mem_sKept _ _).mp h).1 (List.mem_singleton.mpr rfl))]
    unfold GatherDims.start
    rw [dif_pos (show (⟨1, by decide⟩ : Fin 2) ∈ gather_S2x32_S992x2x1_S992x2x2_1_1_n_n_1_2_21.startIndexMap from List.mem_singleton.mpr rfl)]
    have hsi : gather_S2x32_S992x2x1_S992x2x2_1_1_n_n_1_2_21.siIdx (ix3 c a k)
        ⟨List.idxOf (⟨1, by decide⟩ : Fin 2) gather_S2x32_S992x2x1_S992x2x2_1_1_n_n_1_2_21.startIndexMap,
        List.idxOf_lt_length_iff.2 (List.mem_singleton.mpr rfl)⟩ = ix3 c k 0 := by
      funext b; refine Fin.ext ?_
      match b with
      | ⟨0, _⟩ => rfl
      | ⟨1, _⟩ => rfl
      | ⟨2, _⟩ => rfl
    rw [hsi]
    rfl

/-- A gather of columns by the other table of column numbers. -/
theorem gatherRest_apply (x : FVec Ideal S2x32 .f32) (idx : IVec S992x30x1 32) (c : Fin 992) (a : Fin 2) (k : Fin 30) :
    Host.gather gather_S2x32_S992x30x1_S992x2x30_1_1_n_n_1_2_21 x idx (ix3 c a k)
      = x (ix2 a ⟨min (idx (ix3 c k 0)).toInt.toNat 31, by omega⟩) := by
  unfold Host.gather
  congr 1
  funext b
  refine Fin.ext ?_
  show GatherDims.start _ _ idx b + GatherDims.batchCoord _ _ b + GatherDims.offCoord _ _ b = _
  rw [GatherDims.batchCoord_eq_zero _ _ _ List.not_mem_nil]
  match b with
  | ⟨0, _⟩ =>
    unfold GatherDims.start GatherDims.offCoord
    rw [dif_neg (show ¬ (⟨0, by decide⟩ : Fin 2) ∈ gather_S2x32_S992x30x1_S992x2x30_1_1_n_n_1_2_21.startIndexMap from
        fun h => absurd (List.mem_singleton.mp h) (by decide)),
      dif_pos ((GatherDims.mem_sKept _ _).mpr ⟨fun h => absurd (congrArg Fin.val (List.mem_singleton.mp h)) Nat.zero_ne_one, List.not_mem_nil⟩)]
    rw [Nat.zero_add]
    rfl
  | ⟨1, _⟩ =>
    rw [GatherDims.offCoord_eq_zero _ _ _ (fun h => ((GatherDims.mem_sKept _ _).mp h).1 (List.mem_singleton.mpr rfl))]
    unfold GatherDims.start
    rw [dif_pos (show (⟨1, by decide⟩ : Fin 2) ∈ gather_S2x32_S992x30x1_S992x2x30_1_1_n_n_1_2_21.startIndexMap from List.mem_singleton.mpr rfl)]
    have hsi : gather_S2x32_S992x30x1_S992x2x30_1_1_n_n_1_2_21.siIdx (ix3 c a k)
        ⟨List.idxOf (⟨1, by decide⟩ : Fin 2) gather_S2x32_S992x30x1_S992x2x30_1_1_n_n_1_2_21.startIndexMap,
        List.idxOf_lt_length_iff.2 (List.mem_singleton.mpr rfl)⟩ = ix3 c k 0 := by
      funext b; refine Fin.ext ?_
      match b with
      | ⟨0, _⟩ => rfl
      | ⟨1, _⟩ => rfl
      | ⟨2, _⟩ => rfl
    rw [hsi]
    rfl

theorem takePair_apply (x : FVec Ideal S2x32 .f32) (c : Fin 992) (a k : Fin 2) :
    takePair x (ix3 c a k) = x (ix2 a (point c k)) := by
  have hb : ∀ (c : Fin 992) (k : Fin 2) (z : Fin 1), broadcastInDim S992x2x1 ![0, 1] bcast_S992x2_S992x2x1_0_1 wrapPair (ix3 c k z)
      = BitVec.ofNat 32 (point c k).val := fun c k z => by
    refine Eq.trans ?_ (wrapPair_apply c k)
    pointwise
  unfold takePair
  show Scalar.select _ _ _ = _
  rw [show broadcastInDim S992x2x2 ![0, 2] bcast_S992x2_S992x2x2_0_2 (Host.reduce IntOp.andi _ _ reducesTo_S992x2x1_S992x2_d2 h_S_) (ix3 c a k)
      = 1#1 from by
    refine reduce_one _ _ _ _ (fun i => ?_) (fun _ => rfl) _
    idx_vars i
    show IntOp.andi (IntOp.cmpi .sge (broadcastInDim S992x2x1 ![0, 1] bcast_S992x2_S992x2x1_0_1 wrapPair _) 0#32)
      (IntOp.cmpi .sle (broadcastInDim S992x2x1 ![0, 1] bcast_S992x2_S992x2x1_0_1 wrapPair _) 31#32) = 1#1
    rw [hb]
    exact inside_small _ (point _ _).isLt]
  show Host.gather _ _ _ _ = _
  rw [gatherPair_apply]
  congr 2
  refine Fin.ext ?_
  show min (broadcastInDim S992x2x1 ![0, 1] bcast_S992x2_S992x2x1_0_1 wrapPair (ix3 c k 0)).toInt.toNat 31 = _
  rw [hb]
  exact clamp_small _ (point c k).isLt

theorem takeRest_apply (x : FVec Ideal S2x32 .f32) (c : Fin 992) (a : Fin 2) (k : Fin 30) :
    takeRest x (ix3 c a k) = x (ix2 a (other c k)) := by
  have hb : ∀ (c : Fin 992) (k : Fin 30) (z : Fin 1), broadcastInDim S992x30x1 ![0, 1] bcast_S992x30_S992x30x1_0_1 wrapRest (ix3 c k z)
      = BitVec.ofNat 32 (other c k).val := fun c k z => by
    refine Eq.trans ?_ (wrapRest_apply c k)
    pointwise
  unfold takeRest
  show Scalar.select _ _ _ = _
  rw [show broadcastInDim S992x2x30 ![0, 2] bcast_S992x30_S992x2x30_0_2 (Host.reduce IntOp.andi _ _ reducesTo_S992x30x1_S992x30_d2 h_S_) (ix3 c a k)
      = 1#1 from by
    refine reduce_one _ _ _ _ (fun i => ?_) (fun _ => rfl) _
    idx_vars i
    show IntOp.andi (IntOp.cmpi .sge (broadcastInDim S992x30x1 ![0, 1] bcast_S992x30_S992x30x1_0_1 wrapRest _) 0#32)
      (IntOp.cmpi .sle (broadcastInDim S992x30x1 ![0, 1] bcast_S992x30_S992x30x1_0_1 wrapRest _) 31#32) = 1#1
    rw [hb]
    exact inside_small _ (other _ _).isLt]
  show Host.gather _ _ _ _ = _
  rw [gatherRest_apply]
  congr 2
  refine Fin.ext ?_
  show min (broadcastInDim S992x30x1 ![0, 1] bcast_S992x30_S992x30x1_0_1 wrapRest (ix3 c k 0)).toInt.toNat 31 = _
  rw [hb]
  exact clamp_small _ (other c k).isLt

end Cert.ReferenceIdeal.Stages
-- ==== Proof.Reference.lean ====
module

public import proofs.«01_k».proof.Proof.Gathered

/-! # What the reference computes -/

@[expose] public section

set_option maxRecDepth 16384

noncomputable section

namespace Cert.ReferenceIdeal.Stages

open Cert.ReferenceIdeal Cert.ReferenceIdeal.Gen Idealize.ShloMosaic Idealize.ShloMosaic.TcCoe Cert.Pairs Cert.Spec Cert.Sorting

/-- The inner products of the points of each pair with all the points, the pair's own first. -/
def grams (x : FVec Ideal S2x32 .f32) : FVec Ideal S992x2x32 .f32 :=
  concatenate S992x2x32 2 [⟨S992x2x2, (Host.dotGeneral dot_S992x2x2_S992x2x2_S992x2x2_2_1_1_2_0_0 none (transpose S992x2x2 [0, 2, 1] (takePair x) transposes_S992x2x2_S992x2x2_0_2_1) (takePair x))⟩, ⟨S992x2x30, (Host.dotGeneral dot_S992x2x2_S992x2x30_S992x2x30_2_1_1_2_0_0 none (transpose S992x2x2 [0, 2, 1] (takePair x) transposes_S992x2x2_S992x2x2_0_2_1) (takeRest x))⟩] concatenates_S992x2x2_S992x2x30_S992x2x32_d2

/-- The four inner products of each pair. -/
def heads (x : FVec Ideal S2x32 .f32) : FVec Ideal S992x4 .f32 :=
  shapeCast _ (transpose S992x2x2 [0, 2, 1] (extractStridedSlice S992x2x2 ![0, 0, 0] (grams x) slices_S992x2x32_S992x2x2_0_0_0) transposes_S992x2x2_S992x2x2_0_2_1) shapeCasts_S992x2x2_S992x4

/-- The projections of the points outside each pair. -/
def projs (x : FVec Ideal S2x32 .f32) (w : FVec Ideal S129x2 .f32) : FVec Ideal S992x30x129 .f32 :=
  Host.dotGeneral dot_S992x30x2_S2x129_S992x30x129_2_0_01_1_n_n none (transpose S992x30x2 [0, 2, 1] (extractStridedSlice S992x2x30 ![0, 0, 2] (grams x) slices_S992x2x32_S992x2x30_0_0_2) transposes_S992x2x30_S992x30x2_0_2_1) (transpose S2x129 [1, 0] w transposes_S129x2_S2x129_1_0)

/-- The projections in ascending order. -/
def sortedProjs (x : FVec Ideal S2x32 .f32) (w : FVec Ideal S129x2 .f32) : FVec Ideal S992x30x129 .f32 :=
  Host.sort S992x30x129 1 comparator_f32_d1 (projs x w)

/-- The weighted sums of the projections. -/
def inners (x : FVec Ideal S2x32 .f32) (w : FVec Ideal S129x2 .f32) (u : FVec Ideal S129x30 .f32) : FVec Ideal S992x129 .f32 :=
  Host.reduceAdd (mulf (broadcastInDim S992x129x30 ![0, 1, 2] bcast_S1x129x30_S992x129x30_0_1_2 (broadcastInDim S1x129x30 ![1, 2] bcast_S129x30_S1x129x30_1_2 u)) (transpose S992x129x30 [0, 2, 1] (sortedProjs x w) transposes_S992x30x129_S992x129x30_0_2_1)) (constant S_ .f32 0x00000000#32) reducesTo_S992x129x30_S992x129_d2 h_S_

/-- The scores. -/
def scores (x : FVec Ideal S2x32 .f32) (w : FVec Ideal S129x2 .f32) (u : FVec Ideal S129x30 .f32) (v : FVec Ideal S129x133 .f32) : FVec Ideal S992x129 .f32 :=
  Host.dotGeneral dot_S992x133_S133x129_S992x129_1_0_0_1_n_n none (transpose S992x133 [1, 0] (transpose S133x992 [1, 0] (concatenate S992x133 1 [⟨S992x4, heads x⟩, ⟨S992x129, inners x w u⟩] concatenates_S992x4_S992x129_S992x133_d1) transposes_S992x133_S133x992_1_0) transposes_S133x992_S992x133_1_0) (transpose S133x129 [1, 0] v transposes_S129x133_S133x129_1_0)

/-- The scores in ascending order. -/
def sortedScores (x : FVec Ideal S2x32 .f32) (w : FVec Ideal S129x2 .f32) (u : FVec Ideal S129x30 .f32) (v : FVec Ideal S129x133 .f32) : FVec Ideal S992x129 .f32 :=
  Host.sort S992x129 0 comparator_f32_d0 (scores x w u v)

/-- The result. -/
def out (x : FVec Ideal S2x32 .f32) (w : FVec Ideal S129x2 .f32) (u : FVec Ideal S129x30 .f32) (v : FVec Ideal S129x133 .f32) (z : FVec Ideal S129x992 .f32) : FVec Ideal S129x1 .f32 :=
  broadcastInDim S129x1 ![0] bcast_S129_S129x1_0 (Host.reduceAdd (mulf z (transpose S129x992 [1, 0] (sortedScores x w u v) transposes_S992x129_S129x992_1_0)) (constant S_ .f32 0x00000000#32) reducesTo_S129x992_S129_d1 h_S_)

/-- The reference's result is the last stage. -/
theorem res_eq (m : (ℓ : Loc nD τ sig) → Buf (Elt Ideal) ℓ) (c : Dev nD) : Value.res_main_v29 m c
    = out (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) := rfl

/-- A matrix by its two coordinates. -/
abbrev mat {a b : ℕ} (x : FVec Ideal ⟨2, ![a, b]⟩ .f32) : Fin a → Fin b → EReal := fun i j => x (ix2 i j)

/-- A sort lists each fiber in ascending order. -/
theorem sort_fiber {s : Shape} {cmp : EReal → EReal → BitVec 1} (hc : ∀ a b, cmp a b = 1#1 ↔ a < b) (y : s.Idx → EReal)
    (d : ℕ) (hd : d < s.rank) (j : s.Idx) :
    Host.sort s d cmp y j = asc (fun k => y (j.along ⟨d, hd⟩ k)) (j ⟨d, hd⟩) := by
  refine Eq.trans ?_ (congrFun (ascending_unique
    (ascending_sortedFrom cmp hc fun k => y (j.along ⟨d, hd⟩ k)) (asc_ascending _)) (j ⟨d, hd⟩))
  unfold Host.sort
  rw [dif_pos hd]

theorem along_middle (c : Fin 992) (j k : Fin 30) (l : Fin 129) :
    Shape.Idx.along (s := S992x30x129) (ix3 c j l) (1 : Fin 3) k = ix3 c k l := by
  funext d
  match d with
  | ⟨0, _⟩ => rfl
  | ⟨1, _⟩ => rfl
  | ⟨2, _⟩ => rfl

theorem along_first (c k : Fin 992) (l : Fin 129) :
    Shape.Idx.along (s := S992x129) (ix2 c l) (0 : Fin 2) k = ix2 k l := by
  funext d
  match d with
  | ⟨0, _⟩ => rfl
  | ⟨1, _⟩ => rfl

theorem grams_own (x : FVec Ideal S2x32 .f32) (c : Fin 992) (a b : Fin 2) :
    grams x (ix3 c a ⟨b.val, by omega⟩) = gram (mat x) (point c a) (point c b) := by
  pointwise [grams]
  exact Finset.sum_congr rfl fun i _ => by rw [takePair_apply, takePair_apply]

theorem grams_other (x : FVec Ideal S2x32 .f32) (c : Fin 992) (a : Fin 2) (j : Fin 30) :
    grams x (ix3 c a ⟨j.val + 2, by omega⟩) = gram (mat x) (point c a) (other c j) := by
  pointwise [grams]
  rw [dif_neg (by omega)]
  exact Finset.sum_congr rfl fun i _ => by rw [takePair_apply, takeRest_apply]; rfl

theorem heads_apply (x : FVec Ideal S2x32 .f32) (c : Fin 992) (e : Fin 4) :
    heads x (ix2 c e) = gram (mat x) (point c (e.val / 2)) (point c (e.val % 2)) := by
  pointwise [heads]
  exact (grams_own x c ⟨e.val % 2, by omega⟩ ⟨e.val / 2, by omega⟩).trans (gram_comm _ _ _)

theorem projs_apply (x : FVec Ideal S2x32 .f32) (w : FVec Ideal S129x2 .f32) (c : Fin 992) (j : Fin 30) (l : Fin 129) :
    projs x w (ix3 c j l) = proj (mat x) (mat w) c l (other c j) := by
  pointwise [projs]
  refine Finset.sum_congr rfl fun i _ => ?_
  rw [← grams_other]
  exact congrArg (fun k => grams x (ix3 c i k) * w (ix2 l i)) (Fin.ext (Nat.add_comm _ _))

theorem sortedProjs_apply (x : FVec Ideal S2x32 .f32) (w : FVec Ideal S129x2 .f32) (c : Fin 992) (j : Fin 30) (l : Fin 129) :
    sortedProjs x w (ix3 c j l) = asc (fun j => proj (mat x) (mat w) c l (other c j)) j := by
  refine (sort_fiber (fun a b => comparator_d1_one_iff a b) (projs x w) 1 (by decide) (ix3 c j l)).trans ?_
  exact congrArg (fun v => asc v j)
    (funext fun k => (congrArg (projs x w) (along_middle c j k l)).trans (projs_apply x w c k l))

theorem inners_apply (x : FVec Ideal S2x32 .f32) (w : FVec Ideal S129x2 .f32) (u : FVec Ideal S129x30 .f32) (c : Fin 992)
    (l : Fin 129) : inners x w u (ix2 c l) = inner (mat x) (mat w) (mat u) c l := by
  pointwise [inners]
  exact Finset.sum_congr rfl fun j _ => by rw [sortedProjs_apply]

theorem scores_apply (x : FVec Ideal S2x32 .f32) (w : FVec Ideal S129x2 .f32) (u : FVec Ideal S129x30 .f32)
    (v : FVec Ideal S129x133 .f32) (c : Fin 992) (l : Fin 129) :
    scores x w u v (ix2 c l) = score (mat x) (mat w) (mat u) (mat v) l c := by
  pointwise [scores]
  refine congrArg₂ (· + ·) (Finset.sum_congr rfl fun e _ => ?_) (Finset.sum_congr rfl fun e _ => ?_)
  · rw [heads_apply]
  · rw [inners_apply]

theorem sortedScores_apply (x : FVec Ideal S2x32 .f32) (w : FVec Ideal S129x2 .f32) (u : FVec Ideal S129x30 .f32)
    (v : FVec Ideal S129x133 .f32) (c : Fin 992) (l : Fin 129) :
    sortedScores x w u v (ix2 c l) = asc (score (mat x) (mat w) (mat u) (mat v) l) c := by
  refine (sort_fiber (fun a b => comparator_d0_one_iff a b) (scores x w u v) 0 (by decide) (ix2 c l)).trans ?_
  exact congrArg (fun v => asc v c)
    (funext fun k => (congrArg (scores x w u v) (along_first c k l)).trans (scores_apply x w u v k l))

theorem out_apply (x : FVec Ideal S2x32 .f32) (w : FVec Ideal S129x2 .f32) (u : FVec Ideal S129x30 .f32)
    (v : FVec Ideal S129x133 .f32) (z : FVec Ideal S129x992 .f32) (l : Fin 129) (t : Fin 1) :
    out x w u v z (ix2 l t) = result (mat x) (mat w) (mat u) (mat v) (mat z) l := by
  pointwise [out]
  exact Finset.sum_congr rfl fun c _ => by rw [sortedScores_apply]

end Cert.ReferenceIdeal.Stages
-- ==== Proof.Result.lean ====
module

public import proofs.«01_k».proof.Defs
public import proofs.«01_k».proof.Proof.Host
public import proofs.«01_k».proof.Proof.Stored
public import proofs.«01_k».proof.Proof.Reference

/-! # The kernel's result

The array the kernel leaves is the result the reference leaves. -/

@[expose] public section

set_option maxRecDepth 65536
set_option maxHeartbeats 1000000

noncomputable section

namespace Cert.KernelIdeal.Hand

open Cert.KernelIdeal Cert.KernelIdeal.Gen Idealize.ShloMosaic Idealize.ShloMosaic.TcCoe
open Cert.KernelIdeal.Mirror (Given stored)

variable (m : (ℓ : Loc nD τ sig) → Buf (Elt Ideal) ℓ) (c : Dev nD)

theorem given (t : Fin cfg0.N) : Given (iblk m c 0 t) (iblk m c 1 t) (iblk m c 5 t) (iblk m c 6 t) (iblk m c 7 t)
    (fun l n => m ((c : Thread nD τ).loc main_arg4) (ix2 l n)) where
  turned a i := by rw [iblk0, iblk1, V_main_arg0]; exact v0_apply m c a i
  fst k n := by rw [iblk5]; exact cst_apply m c k n
  snd k n := by rw [iblk6]; exact cst_0_apply m c k n
  weights q l r := by rw [iblk7, V_v3]; exact rearranged_apply _ q l r

/-- What the kernel stores is the reference's result of the same arguments. -/
theorem stored_eq (t : Fin cfg0.N) (l : Fin 129) (e : Fin 1) :
    outsAt0 m c t (ix2 l e)
      = Cert.ReferenceIdeal.Stages.out (m ((c : Thread nD τ).loc main_arg0)) (m ((c : Thread nD τ).loc main_arg1))
          (m ((c : Thread nD τ).loc main_arg2)) (m ((c : Thread nD τ).loc main_arg3)) (m ((c : Thread nD τ).loc main_arg4)) (ix2 l e) := by
  unfold outsAt0
  rw [stored (h := given m c t), Cert.ReferenceIdeal.Stages.out_apply, iblk1, iblk2, iblk3, iblk4, V_main_arg0, V_main_arg1, V_main_arg2, V_main_arg3]

theorem outs_eq (t : Fin cfg0.N) :
    outsAt0 m c t
      = Cert.ReferenceIdeal.Stages.out (m ((c : Thread nD τ).loc main_arg0)) (m ((c : Thread nD τ).loc main_arg1))
          (m ((c : Thread nD τ).loc main_arg2)) (m ((c : Thread nD τ).loc main_arg3)) (m ((c : Thread nD τ).loc main_arg4)) := by
  funext j
  have hj : j = ix2 (j 0) (j 1) := funext fun a => by
    match a with
    | ⟨0, _⟩ => rfl
    | ⟨1, _⟩ => rfl
  rw [hj]
  exact stored_eq m c t (j 0) (j 1)

/-- The one point of the grid. -/
abbrev t0 : Fin cfg0.N := ⟨0, by decide⟩

theorem final : (dats m 0 c).arrAt 8 cfg0.N
    = Cert.ReferenceIdeal.Stages.out (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_after_last 8 t0 (by decide +kernel) _ fun j => ?_
  blk_simp
  rw [after0_8]
  exact congrFun (outs_eq m c t0) j

/-- From equal arguments the kernel and the reference leave equal results. -/
theorem algebraic : Cert.algebraic_KernelIdeal_ReferenceIdeal := by
  pair_intro
  · run_from Cert.KernelIdeal.Value.run_blocks m g
  · run_from Cert.ReferenceIdeal.Value.run m' g'
    obtain ⟨e0, e1, e2, e3, e4⟩ := hagree c
    refine (Cert.ReferenceIdeal.Stages.res_eq m' c).trans (Eq.trans ?_ (final m c).symm)
    rw [e0, e1, e2, e3, e4]

end Cert.KernelIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Result
public import Idealize.ShloMosaic.Adequacy
public import Idealize.ShloMosaic.Init

@[expose] public section

noncomputable section

namespace Cert.Proof

open Idealize.ShloMosaic Idealize.SL.Sem Cert.Kernel

/-- The reference runs and leaves its arguments as they were. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference,
  IdealRules.named_const.statement Cert.KernelIdeal.κ "big" .f32 0x7149F2CA#32 ⊤ rfl, Cert.KernelIdeal.Hand.algebraic⟩

end Cert.Proof

end
